-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x1x256 : Shape := ⟨4, ![16, 256, 1, 256]⟩
abbrev S8192x256 : Shape := ⟨2, ![8192, 256]⟩
abbrev S_ : Shape := ⟨0, ![]⟩

class Facts : Prop where
  bcast_S_S16x256x1x256 : S_.BroadcastsInDim S16x256x1x256 (![] : Fin 0 → Fin S16x256x1x256.rank)
  bcast_S_S8192x256 : S_.BroadcastsInDim S8192x256 (![] : Fin 0 → Fin S8192x256.rank)

variable [Facts]

def fn {F : FTy → Type} [FloatOps F] (main_arg0 : FVec F S16x256x1x256 .f32) (main_arg1 : FVec F S8192x256 .f32) : IVec S16x256x1x256 1 × IVec S8192x256 1 :=
  let main_v0 : FVec F S16x256x1x256 .f32 := Host.absf main_arg0
  let main_cst : FVec F S_ .f32 := constant S_ .f32 0x7F800000#32
  let main_v1 : FVec F S16x256x1x256 .f32 := broadcastInDim S16x256x1x256 ![] bcast_S_S16x256x1x256 main_cst
  let main_v2 : IVec S16x256x1x256 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  (main_v2, main_v5)
-- ==== Kernel.lean ====
abbrev S16x256x1x256 : Shape := ⟨4, ![16, 256, 1, 256]⟩
abbrev S8192x256 : Shape := ⟨2, ![8192, 256]⟩
abbrev S16x256x256 : Shape := ⟨3, ![16, 256, 256]⟩
abbrev S16x1x256 : Shape := ⟨3, ![16, 1, 256]⟩
abbrev S1x256x256 : Shape := ⟨3, ![1, 256, 256]⟩
abbrev S1x1x256 : Shape := ⟨3, ![1, 1, 256]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩
abbrev S256 : Shape := ⟨1, ![256]⟩
abbrev S1x256 : Shape := ⟨2, ![1, 256]⟩
abbrev S32x256 : Shape := ⟨2, ![32, 256]⟩
abbrev S128x256 : Shape := ⟨2, ![128, 256]⟩

abbrev nBuf : Space → Nat
  | .hbm => 4
  | .vmem => 7
  | .smem => 0
  | _ => 0

abbrev bufTy : (tb : Table) → Fin (tcTables nBuf tb) → BufTy
  | .hbm, ⟨0, _⟩ => ⟨S16x256x1x256, .f32⟩
  | .hbm, ⟨1, _⟩ => ⟨S8192x256, .f32⟩
  | .hbm, ⟨2, _⟩ => ⟨S16x256x256, .f32⟩
  | .hbm, ⟨3, _⟩ => ⟨S16x1x256, .i32⟩
  | .local _ .vmem, ⟨0, _⟩ => ⟨S1x256x256, .f32⟩
  | .local _ .vmem, ⟨1, _⟩ => ⟨S1x256x256, .f32⟩
  | .local _ .vmem, ⟨2, _⟩ => ⟨S8192x256, .f32⟩
  | .local _ .vmem, ⟨3, _⟩ => ⟨S1x1x256, .i32⟩
  | .local _ .vmem, ⟨4, _⟩ => ⟨S1x1x256, .i32⟩
  | .local _ .vmem, ⟨5, _⟩ => ⟨S8192x256, .f32⟩
  | .local _ .vmem, ⟨6, _⟩ => ⟨S8192x256, .f32⟩
  | _, _ => ⟨S16x256x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x256x1x256 : Shape := ⟨4, ![16, 256, 1, 256]⟩
abbrev S8192x256 : Shape := ⟨2, ![8192, 256]⟩
abbrev S16x1x256x256 : Shape := ⟨4, ![16, 1, 256, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S256x8192 : Shape := ⟨2, ![256, 8192]⟩
abbrev S16x1x256 : Shape := ⟨3, ![16, 1, 256]⟩

abbrev nBuf : Space → Nat
  | .hbm => 27
  | .vmem => 0
  | .smem => 0
  | _ => 0

abbrev bufTy : (tb : Table) → Fin (tcTables nBuf tb) → BufTy
  | .hbm, ⟨0, _⟩ => ⟨S16x256x1x256, .f32⟩
  | .hbm, ⟨1, _⟩ => ⟨S8192x256, .f32⟩
  | .hbm, ⟨2, _⟩ => ⟨S16x1x256x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S256x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .i32⟩
  | .hbm, ⟨22, _⟩ => ⟨S_, .f32⟩
  | .hbm, ⟨23, _⟩ => ⟨S_, .i32⟩
  | .hbm, ⟨24, _⟩ => ⟨S4096, .f32⟩
  | .hbm, ⟨25, _⟩ => ⟨S4096, .i32⟩
  | .hbm, ⟨26, _⟩ => ⟨S16x1x256, .i32⟩
  | _, _ => ⟨S16x256x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.FirstMin.lean ====
/-
  The first minimum of a finite sequence of extended reals, and the two ways the programs look for it: entry by entry over the
  whole sequence, and in `P` interleaved subsequences (entry `P * a + p` belongs to subsequence `p`) whose winners are then
  compared.
-/
module

public import Idealize.ShloMosaic.Lib.ValueIdx
public import Idealize.ShloMosaic.PureOps.Ideal.Laws

@[expose] public section

namespace Cert.Nearest

/-- `n` is the place of the smallest of `f 0, …, f (N - 1)`, the first such place. -/
structure FirstMin (f : ℕ → EReal) (N n : ℕ) : Prop where
  lt : n < N
  le : ∀ i < N, f n ≤ f i
  first : ∀ i < n, f n < f i

/-- A sequence has one first minimum at most. -/
theorem FirstMin.unique {f : ℕ → EReal} {N a b : ℕ} (ha : FirstMin f N a) (hb : FirstMin f N b) : a = b := by
  rcases lt_trichotomy a b with h | h | h
  · exact absurd (ha.le b hb.lt) (not_le.mpr (hb.first a h))
  · exact h
  · exact absurd (hb.le a ha.lt) (not_le.mpr (ha.first b h))

/-- A sequence of one entry. -/
theorem FirstMin.one (f : ℕ → EReal) : FirstMin f 1 0 :=
  ⟨Nat.one_pos, fun i hi => by rw [Nat.lt_one_iff.mp hi], fun i hi => absurd hi (Nat.not_lt_zero i)⟩

/-- A new entry below the minimum so far is the minimum. -/
theorem FirstMin.succ_new {f : ℕ → EReal} {N n : ℕ} (h : FirstMin f N n) (hlt : f N < f n) : FirstMin f (N + 1) N :=
  ⟨Nat.lt_succ_self N,
   fun i hi => (Nat.lt_succ_iff_lt_or_eq.mp hi).elim (fun h' => hlt.le.trans (h.le i h')) (fun h' => by rw [h']),
   fun i hi => hlt.trans_le (h.le i hi)⟩

/-- A new entry that is not below the minimum so far leaves it. -/
theorem FirstMin.succ_old {f : ℕ → EReal} {N n : ℕ} (h : FirstMin f N n) (hge : ¬ f N < f n) : FirstMin f (N + 1) n :=
  ⟨h.lt.trans (Nat.lt_succ_self N),
   fun i hi => (Nat.lt_succ_iff_lt_or_eq.mp hi).elim (fun h' => h.le i h') (fun h' => by rw [h']; exact not_lt.mp hge),
   h.first⟩

/-- The state of a running search after `N` entries: nothing seen yet (the value `⊤`, the place `0`), or the first minimum
    with its place. -/
def Found (f : ℕ → EReal) (N : ℕ) (v : EReal) (n : ℕ) : Prop :=
  (N = 0 ∧ v = ⊤ ∧ n = 0) ∨ (FirstMin f N n ∧ v = f n)

/-- An entry strictly below the value kept so far replaces it. -/
theorem Found.take {f : ℕ → EReal} {N n : ℕ} {v : EReal} (h : Found f N v n) (hlt : f N < v) :
    Found f (N + 1) (f N) N := by
  rcases h with ⟨rfl, rfl, rfl⟩ | ⟨h, rfl⟩
  · exact .inr ⟨FirstMin.one f, rfl⟩
  · exact .inr ⟨h.succ_new hlt, rfl⟩

/-- Any other leaves it, provided that no entry is `⊤`. -/
theorem Found.keep {f : ℕ → EReal} {N n : ℕ} {v : EReal} (h : Found f N v n) (hf : f N < ⊤) (hge : ¬ f N < v) :
    Found f (N + 1) v n := by
  rcases h with ⟨rfl, rfl, rfl⟩ | ⟨h, rfl⟩
  · exact absurd hf hge
  · exact .inr ⟨h.succ_old hge, rfl⟩

/-- After at least one entry the search holds the first minimum. -/
theorem Found.firstMin {f : ℕ → EReal} {N n : ℕ} {v : EReal} (h : Found f N v n) (hN : N ≠ 0) :
    FirstMin f N n ∧ v = f n := by
  rcases h with ⟨h, _⟩ | h
  · exact absurd h hN
  · exact h

/-- Folding `min` from `⊤` over a finite nonempty type gives the value at some point, and a lower bound of all of them. -/
theorem fold_min_top {ι : Type} [Fintype ι] [Nonempty ι] (g : ι → EReal) :
    (∃ i, Finset.univ.fold min ⊤ g = g i) ∧ ∀ i, Finset.univ.fold min ⊤ g ≤ g i := by
  have hle : ∀ i, Finset.univ.fold min ⊤ g ≤ g i := fun i =>
    Finset.fold_min_le _ |>.mpr (.inr ⟨i, Finset.mem_univ i, le_rfl⟩)
  obtain ⟨i, _, hi⟩ := Finset.exists_min_image Finset.univ g Finset.univ_nonempty
  exact ⟨⟨i, le_antisymm (hle i) ((Finset.le_fold_min _).mpr ⟨le_top, fun x hx => hi x hx⟩)⟩, hle⟩

/-- `P` interleaved searches joined: among the subsequences whose minimum is the least of the minima, the least place
    `P * n + p` of a winner is the place of the first minimum of the whole sequence. -/
theorem firstMin_interleaved {P : ℕ} [NeZero P] {f : ℕ → EReal} {N : ℕ} (v : Fin P → EReal) (n : Fin P → ℕ)
    (h : ∀ p : Fin P, FirstMin (fun a => f (P * a + p.val)) N (n p) ∧ v p = f (P * n p + p.val)) :
    ∃ r, FirstMin f (P * N) r ∧
      Finset.univ.fold min ⊤ (fun p : Fin P =>
        if v p = Finset.univ.fold min ⊤ v then ((P * n p + p.val : ℕ) : EReal) else ⊤) = ((r : ℕ) : EReal) := by
  set g := Finset.univ.fold min ⊤ v with hg
  obtain ⟨⟨p₀, hp₀⟩, hgle⟩ := fold_min_top v
  rw [← hg] at hp₀ hgle
  set cand : Fin P → EReal := fun p => if v p = g then ((P * n p + p.val : ℕ) : EReal) else ⊤ with hcand
  obtain ⟨⟨p₁, hp₁⟩, hcle⟩ := fold_min_top cand
  have htop : ∀ a : ℕ, ((a : ℕ) : EReal) ≠ ⊤ := fun a => EReal.natCast_ne_top a
  have hv₁ : v p₁ = g := by
    by_contra hne
    have h0 := hcle p₀
    rw [hp₁] at h0
    simp only [hcand, if_neg hne, if_pos hp₀.symm] at h0
    exact htop _ (top_le_iff.mp h0)
  have hc₁ : cand p₁ = ((P * n p₁ + p₁.val : ℕ) : EReal) := by simp only [hcand, if_pos hv₁]
  refine ⟨P * n p₁ + p₁.val, ⟨?_, ?_, ?_⟩, hp₁.trans hc₁⟩
  · have h1 := (h p₁).1.lt
    calc P * n p₁ + p₁.val < P * n p₁ + P := Nat.add_lt_add_left p₁.isLt _
      _ = P * (n p₁ + 1) := by ring
      _ ≤ P * N := Nat.mul_le_mul_left _ h1
  · intro i hi
    have hP : 0 < P := Nat.pos_of_ne_zero (NeZero.ne P)
    have hle := (h ⟨i % P, Nat.mod_lt _ hP⟩).1.le (i / P) (Nat.div_lt_of_lt_mul hi)
    have hi' : P * (i / P) + i % P = i := Nat.div_add_mod i P
    have h2 := hgle ⟨i % P, Nat.mod_lt _ hP⟩
    rw [(h ⟨i % P, Nat.mod_lt _ hP⟩).2] at h2
    rw [← (h p₁).2, hv₁]
    refine h2.trans (hle.trans ?_)
    simp only [hi']; exact le_rfl
  · intro i hi
    by_contra hcon
    have hP : 0 < P := Nat.pos_of_ne_zero (NeZero.ne P)
    set p : Fin P := ⟨i % P, Nat.mod_lt _ hP⟩ with hp
    have hi' : P * (i / P) + p.val = i := Nat.div_add_mod i P
    have hlt : i < P * N := by
      have h1 := (h p₁).1.lt
      have : P * n p₁ + p₁.val < P * N := by
        calc P * n p₁ + p₁.val < P * n p₁ + P := Nat.add_lt_add_left p₁.isLt _
          _ = P * (n p₁ + 1) := by ring
          _ ≤ P * N := Nat.mul_le_mul_left _ h1
      omega
    have hfi : f i ≤ g := by rw [← hv₁, (h p₁).2]; exact not_lt.mp hcon
    have hle := (h p).1.le (i / P) (Nat.div_lt_of_lt_mul hlt)
    simp only [hi'] at hle
    have hvp : v p = g := le_antisymm (by rw [(h p).2]; exact hle.trans hfi) (hgle p)
    have hna : n p ≤ i / P := by
      by_contra hna
      have := (h p).1.first (i / P) (not_le.mp hna)
      simp only [hi'] at this
      rw [← (h p).2, hvp] at this
      exact absurd this (not_lt.mpr hfi)
    have hc := hcle p
    rw [hp₁, hc₁] at hc
    simp only [hcand, if_pos hvp] at hc
    have hc' : P * n p₁ + p₁.val ≤ P * n p + p.val := by exact_mod_cast hc
    have : P * n p ≤ P * (i / P) := Nat.mul_le_mul_left _ hna
    omega

end Cert.Nearest

end
-- ==== Proof.Words.lean ====
/-
  Whole numbers as words and as extended reals: the binary32 pattern of a whole number below 2 ^ 24 denotes that number, and
  rounding a whole number below 2 ^ 31 to a 32-bit integer gives its word.
-/
module

public import Idealize.ShloMosaic.Lib.ValueIdx
public import Idealize.ShloMosaic.PureOps.Ideal.Laws

@[expose] public section

open Idealize.ShloMosaic

namespace Cert.Nearest

/-- The binary32 pattern of the whole number `k`: the exponent of its leading bit, and the bits under it. -/
def word (k : ℕ) : BitVec 32 :=
  if k = 0 then 0#32 else BitVec.ofNat 32 ((127 + Nat.log2 k) * 2 ^ 23 + (k * 2 ^ (23 - Nat.log2 k) - 2 ^ 23))

/-- A pattern with exponent field `127 + e` and fraction field `k * 2 ^ (23 - e) - 2 ^ 23` denotes `k`. -/
theorem ofBits_word (k : ℕ) (hk : k < 2 ^ 24) : Ideal.ofBits .f32 (word k) = ((k : ℕ) : EReal) := by
  rcases Nat.eq_zero_or_pos k with rfl | hpos
  · simp [word, Ideal.ofBits_zero_f32]
  have hne : k ≠ 0 := hpos.ne'
  set e := Nat.log2 k with he
  have he23 : e ≤ 23 := by
    have := (Nat.log2_lt hne).mpr hk
    omega
  have hlo : 2 ^ e ≤ k := (Nat.le_log2 hne).mp le_rfl
  have hhi : k < 2 ^ (e + 1) := (Nat.log2_lt hne).mp (Nat.lt_succ_self _)
  set fr := k * 2 ^ (23 - e) - 2 ^ 23 with hfr
  have hp : 2 ^ e * 2 ^ (23 - e) = 2 ^ 23 := by rw [← pow_add, show e + (23 - e) = 23 from by omega]
  have hlo' : 2 ^ 23 ≤ k * 2 ^ (23 - e) := by rw [← hp]; exact Nat.mul_le_mul_right _ hlo
  have hhi' : k * 2 ^ (23 - e) < 2 ^ 24 := by
    have : 2 ^ (e + 1) * 2 ^ (23 - e) = 2 ^ 24 := by rw [← pow_add, show e + 1 + (23 - e) = 24 from by omega]
    rw [← this]; exact Nat.mul_lt_mul_of_pos_right hhi (by positivity)
  have hfr23 : fr < 2 ^ 23 := by omega
  have hw : word k = BitVec.ofNat 32 ((127 + e) * 2 ^ 23 + fr) := if_neg hne
  have hN : (127 + e) * 2 ^ 23 + fr < 2 ^ 32 := by
    have : (127 + e) * 2 ^ 23 ≤ 150 * 2 ^ 23 := Nat.mul_le_mul_right _ (by omega)
    omega
  have hN31 : (127 + e) * 2 ^ 23 + fr < 2 ^ 31 := by
    have : (127 + e) * 2 ^ 23 ≤ 150 * 2 ^ 23 := Nat.mul_le_mul_right _ (by omega)
    omega
  have hs : (word k).extractLsb' 31 1 = 0#1 := by
    apply BitVec.eq_of_toNat_eq
    rw [BitVec.extractLsb'_toNat, hw, BitVec.toNat_ofNat, Nat.mod_eq_of_lt hN, Nat.shiftRight_eq_div_pow,
      Nat.div_eq_of_lt hN31]
    rfl
  have hx : ((word k).extractLsb' 23 8).toNat = 127 + e := by
    rw [BitVec.extractLsb'_toNat, hw, BitVec.toNat_ofNat, Nat.mod_eq_of_lt hN, Nat.shiftRight_eq_div_pow]
    rw [show ((127 + e) * 2 ^ 23 + fr) / 2 ^ 23 = 127 + e from by omega]
    exact Nat.mod_eq_of_lt (by omega)
  have hf : ((word k).extractLsb' 0 23).toNat = fr := by
    rw [BitVec.extractLsb'_toNat, hw, BitVec.toNat_ofNat, Nat.mod_eq_of_lt hN, Nat.shiftRight_zero]
    omega
  show Ideal.ieee 8 23 (word k) = _
  unfold Ideal.ieee
  simp only [hs, hx, hf]
  rw [if_neg (by omega), if_neg (by omega)]
  have hsum : 2 ^ 23 + fr = k * 2 ^ (23 - e) := by omega
  rw [hsum]
  have hz : ((((127 + e : ℕ) : ℤ)) - (2 ^ (8 - 1) - 1 : ℤ) - ((23 : ℕ) : ℤ)) = -((23 - e : ℕ) : ℤ) := by
    push_cast [Nat.cast_sub he23]; ring
  have hreal : ((if ((0#1 : BitVec 1) == 1#1) = true then (-1 : ℝ) else 1) * ((k * 2 ^ (23 - e) : ℕ) : ℝ)
      * (2 : ℝ) ^ ((((127 + e : ℕ) : ℤ)) - (2 ^ (8 - 1) - 1 : ℤ) - ((23 : ℕ) : ℤ))) = ((k : ℕ) : ℝ) := by
    rw [hz, zpow_neg, zpow_natCast, if_neg (by decide)]
    push_cast
    field_simp
  rw [hreal]
  rfl

/-- The 32-bit integer of a whole number below `2 ^ 31`. -/
theorem fptosi_nat (n : ℕ) (hn : n < 2 ^ 31) : Ideal.fptosi 32 ((n : ℕ) : EReal) = BitVec.ofNat 32 n := by
  show Ideal.fptosi 32 (((n : ℝ)) : EReal) = _
  unfold Ideal.fptosi
  rw [Ideal.toIntClamped_coe, if_pos (Nat.cast_nonneg n), Int.floor_natCast]
  rw [min_eq_right (by norm_num; omega), max_eq_right (by norm_num)]
  exact BitVec.ofInt_natCast 32 n

/-- A small word read as a signed integer and then as an extended real. -/
theorem sitofp_nat (n : ℕ) (hn : n < 2 ^ 31) :
    (FloatOps.sitofp .f32 (BitVec.ofNat 32 n) : Ideal .f32) = ((n : ℕ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

end Cert.Nearest

end
-- ==== Proof.Sweep.lean ====
/-
  One step of the kernel's search. The kernel keeps, for each of 32 row positions and 256 lanes, the least distance met so far
  and the slice of 32 codebook rows it came from. A step forms the distances of the next slice — the latent's square sum, plus
  the rows' square sums, plus the slice of a product of 128 rows with the latent — and replaces the kept pair where the new
  distance is below the kept one.
-/
module

public import proofs.«01_k».proof.KernelIdeal
public import proofs.«01_k».proof.Proof.FirstMin
public import proofs.«01_k».proof.Proof.Words
public import Idealize.ShloMosaic.Lib.MatmulPlain
public import Idealize.ShloMosaic.Lib.Pipeline.Value

@[expose] public section

noncomputable section

open Idealize.ShloMosaic Idealize.ShloMosaic.ValueIdx

namespace Cert.Nearest

/-- Row `r` of a matrix at column `c`, and zero where there is no such row. -/
def rowAt {M C : ℕ} (X : (⟨2, ![M, C]⟩ : Shape).Idx → EReal) (r : ℕ) (c : Fin C) : EReal :=
  if h : r < M then X (ix2 ⟨r, h⟩ c) else 0

theorem rowAt_of_lt {M C : ℕ} (X : (⟨2, ![M, C]⟩ : Shape).Idx → EReal) {r : ℕ} (h : r < M) (c : Fin C) :
    rowAt X r c = X (ix2 ⟨r, h⟩ c) := dif_pos h

/-- The distance of codebook row `r` from the latent in lane `w`, in the kernel's arrangement: `X` is the scaled codebook,
    `Y` the square sums of its rows, `L` the latent and `z` its square sums. -/
def dist {R : ℕ} (X Y : (⟨2, ![R, 256]⟩ : Shape).Idx → EReal) (L : (⟨2, ![256, 256]⟩ : Shape).Idx → EReal)
    (z : Fin 256 → EReal) (w : Fin 256) (r : ℕ) : EReal :=
  (z w + rowAt Y r w) + ∑ c : Fin 256, rowAt X r c * L (ix2 c w)

/-- The kept pairs after `k` slices. -/
def Swept (δ : Fin 256 → ℕ → EReal) (k : ℕ) (rm si : FVec Ideal ⟨2, ![32, 256]⟩ .f32) : Prop :=
  ∀ (p : Fin 32) (w : Fin 256), ∃ n, Found (fun a => δ w (32 * a + p.val)) k (rm (ix2 p w)) n ∧ si (ix2 p w) = ((n : ℕ) : EReal)

/-- Before the first slice: the kept distance is `⊤` everywhere and the kept slice `0`. -/
theorem Swept.zero (δ : Fin 256 → ℕ → EReal) :
    Swept δ 0 (broadcast ⟨2, ![32, 256]⟩ (FloatOps.ofBits (F := Ideal) .f32 0x7F800000#32))
      (broadcast ⟨2, ![32, 256]⟩ (FloatOps.ofBits (F := Ideal) .f32 0#32)) := by
  intro p w
  refine ⟨0, .inl ⟨rfl, ?_, rfl⟩, ?_⟩
  · show Ideal.ieee 8 23 0x7F800000#32 = ⊤
    simp [Ideal.ieee]
  · exact Ideal.ofBits_zero_f32.trans Nat.cast_zero.symm

/-- The compare of two ideal values, chosen by. -/
theorem select_olt {α : Type} (a b : EReal) (x y : α) :
    Scalar.select (FloatOps.cmpf (F := Ideal) (φ := .f32) .olt a b) x y = if a < b then x else y := by
  show (if Ideal.cmp .olt a b = 1#1 then x else y) = _
  by_cases h : a < b <;> simp [Ideal.cmp, h]

/-- A step over any distances `d` of slice `k`. -/
theorem Swept.next {δ : Fin 256 → ℕ → EReal} {k : ℕ} {rm si d : FVec Ideal ⟨2, ![32, 256]⟩ .f32} {g : EReal}
    (h : Swept δ k rm si) (hδ : ∀ w r, δ w r < ⊤) (hd : ∀ (p : Fin 32) (w : Fin 256), d (ix2 p w) = δ w (32 * k + p.val))
    (hg : g = ((k : ℕ) : EReal)) :
    Swept δ (k + 1) (select (cmpf .olt d rm) d rm) (select (cmpf .olt d rm) (broadcast ⟨2, ![32, 256]⟩ g) si) := by
  intro p w
  obtain ⟨n, hn, hs⟩ := h p w
  simp only [select_apply, cmpf_apply, select_olt, broadcast_apply, hd p w, hs]
  by_cases hlt : δ w (32 * k + p.val) < rm (ix2 p w)
  · simp only [if_pos hlt]
    exact ⟨k, hn.take hlt, hg⟩
  · simp only [if_neg hlt]
    exact ⟨n, hn.keep (hδ w _) hlt, rfl⟩

/-- The product of 128 rows with the latent, at a row and a lane. -/
theorem dot_apply [Cert.KernelIdeal.Facts₀] (A : FVec Ideal ⟨2, ![128, 256]⟩ .f32) (L : FVec Ideal ⟨2, ![256, 256]⟩ .f32)
    (r : Fin 128) (w : Fin 256) :
    matmul Cert.KernelIdeal.dot_S128x256_S256x256_S128x256_1_0_0_1_n_n none A L (constant ⟨2, ![128, 256]⟩ .f32 0x00000000#32)
      (ix2 r w) = ∑ c : Fin 256, A (ix2 r c) * L (ix2 c w) := by
  refine (Ideal.matmul_plain_apply none A L _ r w).trans ?_
  rw [constant_apply, Ideal.ofBits_zero_f32, zero_add]

variable [Cert.KernelIdeal.Facts₀]

/-- The step with the kernel's own distances: rows `o + q = 32 k, …` of the scaled codebook through the product of its rows
    `o, …, o + 127`, and rows `o' = 32 k, …` of the square sums. -/
theorem Swept.step {X Y : (⟨2, ![8192, 256]⟩ : Shape).Idx → EReal} {L : FVec Ideal ⟨2, ![256, 256]⟩ .f32} {Z : Fin 256 → EReal}
    {k o o' q : ℕ} {rm si e : FVec Ideal ⟨2, ![32, 256]⟩ .f32} {z : FVec Ideal ⟨2, ![1, 256]⟩ .f32}
    {A : FVec Ideal ⟨2, ![128, 256]⟩ .f32} {g : BitVec 32}
    {hb : (⟨2, ![1, 256]⟩ : Shape).Broadcasts ⟨2, ![32, 256]⟩} {hs : (⟨2, ![128, 256]⟩ : Shape).Slices ![q, 0] ⟨2, ![32, 256]⟩}
    (h : Swept (dist X Y L Z) k rm si) (hδ : ∀ w r, dist X Y L Z w r < ⊤)
    (hz : ∀ w, z (ix2 0 w) = Z w)
    (hA : ∀ (r : Fin 128) (c : Fin 256), A (ix2 r c) = rowAt X (o + r.val) c)
    (he : ∀ (p : Fin 32) (w : Fin 256), e (ix2 p w) = rowAt Y (o' + p.val) w)
    (ho : o + q = 32 * k) (ho' : o' = 32 * k) (hq : q + 32 ≤ 128) (hk : k < 2 ^ 24) (hg : g = word k) :
    Swept (dist X Y L Z) (k + 1)
      (select (cmpf .olt (addf (addf (broadcastTo ⟨2, ![32, 256]⟩ z hb) e)
          (extractStridedSlice ⟨2, ![32, 256]⟩ ![q, 0] (matmul Cert.KernelIdeal.dot_S128x256_S256x256_S128x256_1_0_0_1_n_n none A L
            (constant ⟨2, ![128, 256]⟩ .f32 0x00000000#32)) hs)) rm)
        (addf (addf (broadcastTo ⟨2, ![32, 256]⟩ z hb) e)
          (extractStridedSlice ⟨2, ![32, 256]⟩ ![q, 0] (matmul Cert.KernelIdeal.dot_S128x256_S256x256_S128x256_1_0_0_1_n_n none A L
            (constant ⟨2, ![128, 256]⟩ .f32 0x00000000#32)) hs)) rm)
      (select (cmpf .olt (addf (addf (broadcastTo ⟨2, ![32, 256]⟩ z hb) e)
          (extractStridedSlice ⟨2, ![32, 256]⟩ ![q, 0] (matmul Cert.KernelIdeal.dot_S128x256_S256x256_S128x256_1_0_0_1_n_n none A L
            (constant ⟨2, ![128, 256]⟩ .f32 0x00000000#32)) hs)) rm)
        (broadcast ⟨2, ![32, 256]⟩ (FloatOps.ofBits (F := Ideal) .f32 g)) si) := by
  refine h.next hδ (fun p w => ?_) ?_
  · rw [addf_apply, addf_apply, he p w]
    have h1 : broadcastTo ⟨2, ![32, 256]⟩ z hb (ix2 p w) = Z w := by
      rw [← hz w]
      refine congrArg z ?_
      funext a
      match a with
      | ⟨0, _⟩ => rfl
      | ⟨1, _⟩ => rfl
    have h2 := extractStridedSlice_apply ![q, 0] (matmul Cert.KernelIdeal.dot_S128x256_S256x256_S128x256_1_0_0_1_n_n none A L
            (constant ⟨2, ![128, 256]⟩ .f32 0x00000000#32)) hs (ix2 p w)
            (ix2 ⟨q + p.val, by have := p.isLt; omega⟩ w) (fun a => by
              match a with
              | ⟨0, _⟩ => rfl
              | ⟨1, _⟩ => exact (Nat.zero_add _).symm)
    rw [h1, h2, dot_apply]
    unfold dist
    rw [ho']
    refine congrArg _ (Finset.sum_congr rfl fun c _ => ?_)
    rw [hA, ← ho, Nat.add_assoc]
  · rw [hg]; exact ofBits_word k hk

end Cert.Nearest

end
-- ==== Proof.Place.lean ====
/-
  The end of the kernel's search: of the 32 kept pairs of a lane, the least distance is found, the codebook row of every pair
  that holds it is formed (32 times its slice plus its position), and the least of these rows is the lane's result.
-/
module

public import proofs.«01_k».proof.Proof.Sweep
public import proofs.«01_k».proof.Proof.Gen.KernelIdeal.Skeleton

@[expose] public section

noncomputable section

open Idealize.ShloMosaic Idealize.ShloMosaic.ValueIdx Cert.KernelIdeal Cert.KernelIdeal.Gen

namespace Cert.Nearest

/-- A minimum over the 32 row positions of a lane. -/
theorem min_rows_apply (x : FVec Ideal S32x256 .f32) (h : S32x256.Reduces [0] S256) (hφ : FKind.Formats .f32)
    (hacc : 0x7F800000#32 = FKind.minimumf.neutral .f32 hφ) (w : Fin 256) :
    multiReduction .minimumf [0] S256 x 0x7F800000#32 h hφ hacc (ix1 w)
      = Finset.univ.fold min ⊤ (fun p : Fin 32 => x (ix2 p w)) := by
  rw [multiReduction_minimumf_eq_fold]
  refine (h.fold_filter_drop_single _ _ x (ix1 w)).trans ?_
  have hinit : (FloatOps.ofBits .f32 0x7F800000#32 : Ideal .f32) = ⊤ := by
    show Ideal.ieee 8 23 0x7F800000#32 = ⊤
    simp [Ideal.ieee]
  have hx : x ∘ h.lift (ix1 w) = fun p : Fin 32 => x (ix2 p w) := by
    funext p
    refine congrArg x ?_
    funext a
    match a with
    | ⟨0, _⟩ => rfl
    | ⟨1, _⟩ => rfl
  rw [hinit, hx]
  rfl

/-- The equality compare of two ideal values, chosen by. -/
theorem select_oeq {α : Type} (a b : EReal) (x y : α) :
    Scalar.select (FloatOps.cmpf (F := Ideal) (φ := .f32) .oeq a b) x y = if a = b then x else y := by
  show (if Ideal.cmp .oeq a b = 1#1 then x else y) = _
  by_cases h : a = b <;> simp [Ideal.cmp, h]

variable [Facts]
open Facts

/-- The stored block at a lane: the least candidate, as an integer. -/
theorem stored_apply (rows : FVec Ideal S32x256 .f32) (mask : IVec S32x256 1) (w : Fin 256) :
    k0_pay1 (F := Ideal) rows mask (ix3 0 0 w) = Ideal.fptosi 32 (Finset.univ.fold min ⊤ fun p : Fin 32 =>
      select mask rows (broadcast S32x256 (FloatOps.ofBits (F := Ideal) .f32 2139095040#32)) (ix2 p w)) := by
  unfold k0_pay1
  refine (shapeCast_addUnit_apply ![1, 256] _ shapeCasts_S1x256_S1x1x256 (ix3 0 0 w)).trans ?_
  refine congrArg (Ideal.fptosi 32) ?_
  refine (shapeCast_addUnit_apply ![256] _ shapeCasts_S256_S1x256 _).trans ?_
  refine (congrArg _ (?_ : _ = ix1 w)).trans (min_rows_apply _ _ _ _ w)
  funext a
  match a with
  | ⟨0, _⟩ => rfl

/-- A lane's result is the row of the first minimum of its distances. -/
theorem Swept.place {δ : Fin 256 → ℕ → EReal} {rm si : FVec Ideal S32x256 .f32} (h : Swept δ 256 rm si)
    {h1 : S32x256.Reduces [0] S256} {h2 : FKind.Formats .f32} {h3 : 0x7F800000#32 = FKind.minimumf.neutral .f32 h2}
    {h4 : S256.ShapeCasts S1x256} {h5 : S1x256.Broadcasts S32x256} {h6 : S32x256.Iotas .tc 32 [0]} (w : Fin 256) :
    ∃ r, FirstMin (δ w) 8192 r ∧
      k0_pay1 (F := Ideal) (addf (mulf si (broadcast S32x256 (FloatOps.ofBits .f32 1107296256#32)))
          (sitofp .f32 (iota .tc S32x256 32 [0] h6)))
        (cmpf .oeq rm (broadcastTo S32x256 (shapeCast S1x256 (multiReduction .minimumf [0] S256 rm 0x7F800000#32 h1 h2 h3) h4) h5))
        (ix3 0 0 w) = BitVec.ofNat 32 r := by
  choose n hn hs using fun p : Fin 32 => h p w
  obtain ⟨r, hr, hfold⟩ := firstMin_interleaved (f := δ w) (N := 256) (fun p : Fin 32 => rm (ix2 p w)) n
    (fun p => (hn p).firstMin (by decide))
  refine ⟨r, hr, ?_⟩
  have hmin : ∀ p : Fin 32, broadcastTo S32x256 (shapeCast S1x256 (multiReduction .minimumf [0] S256 rm 0x7F800000#32 h1 h2 h3) h4) h5
      (ix2 p w) = Finset.univ.fold min ⊤ fun p : Fin 32 => rm (ix2 p w) := fun p => by
    rw [← min_rows_apply rm h1 h2 h3 w]
    refine (shapeCast_addUnit_apply ![256] _ h4 _).trans (congrArg _ ?_)
    funext a
    match a with
    | ⟨0, _⟩ => rfl
  have hcand : ∀ p : Fin 32, select (cmpf .oeq rm (broadcastTo S32x256 (shapeCast S1x256
        (multiReduction .minimumf [0] S256 rm 0x7F800000#32 h1 h2 h3) h4) h5))
      (addf (mulf si (broadcast S32x256 (FloatOps.ofBits .f32 1107296256#32))) (sitofp .f32 (iota .tc S32x256 32 [0] h6)))
      (broadcast S32x256 (FloatOps.ofBits .f32 2139095040#32)) (ix2 p w)
        = if rm (ix2 p w) = Finset.univ.fold min ⊤ (fun p : Fin 32 => rm (ix2 p w)) then ((32 * n p + p.val : ℕ) : EReal) else ⊤ := fun p => by
    rw [select_apply, cmpf_apply, select_oeq, hmin p, addf_apply, mulf_apply, hs p]
    have e32 : (FloatOps.ofBits .f32 1107296256#32 : Ideal .f32) = ((32 : ℕ) : EReal) :=
      ofBits_word 32 (by decide)
    have etop : (FloatOps.ofBits .f32 2139095040#32 : Ideal .f32) = ⊤ := by
      show Ideal.ieee 8 23 0x7F800000#32 = ⊤
      simp [Ideal.ieee]
    have eio : (sitofp .f32 (iota .tc S32x256 32 [0] h6) : FVec Ideal S32x256 .f32) (ix2 p w) = ((p.val : ℕ) : EReal) :=
      by rw [sitofp_apply, iota_single_apply]; exact sitofp_nat p.val (by have := p.isLt; omega)
    rw [broadcast_apply, broadcast_apply, e32, etop, eio]
    congr 1
    push_cast
    rw [mul_comm]
  rw [stored_apply, funext hcand, hfold]
  exact fptosi_nat r (by have := hr.lt; omega)

end Cert.Nearest

end
-- ==== Proof.Fill.lean ====
/-
  What the first grid point writes into the two scratch buffers, in eight stores of 1024 rows each: the codebook times -2, and
  the square sum of each codebook row, in every lane of that row.
-/
module

public import proofs.«01_k».proof.Proof.Sweep
public import proofs.«01_k».proof.Proof.Gen.KernelIdeal.Frame
public import Idealize.ShloMosaic.Lib.WholeRead

@[expose] public section

noncomputable section

open Idealize.ShloMosaic Idealize.ShloMosaic.ValueIdx Cert.KernelIdeal Cert.KernelIdeal.Gen

namespace Cert.Nearest

/-- A load of rows `o, …` of a whole buffer that holds `X`. -/
theorem rows_load {K : ℕ} {a : Memref sig .tc .vmem S8192x256 .f32} (ha : a.IsWhole) (X : Vec Ideal S8192x256 .f32) (o : ℕ)
    (inb : ∀ i, ![o, 0] i + (⟨2, ![K, 256]⟩ : Shape).size i ≤ S8192x256.size i) (r : Fin K) (c : Fin 256) :
    View.readAt (Elt Ideal) a.view (Rect.unit (s := S8192x256) ![o, 0] (⟨2, ![K, 256]⟩ : Shape).size inb).toLoadRect
        (ha.unread X) (ix2 r c) = rowAt X (o + r.val) c := by
  have hlt : o + r.val < 8192 := by
    have h0 : o + K ≤ 8192 := inb 0
    have := r.isLt
    omega
  rw [rowAt_of_lt _ hlt]
  refine (ha.readAt_unread X (Rect.unit (s := S8192x256) ![o, 0] (⟨2, ![K, 256]⟩ : Shape).size inb).toLoadRect (ix2 r c)).trans
    (congrArg X ?_)
  funext a
  match a with
  | ⟨0, _⟩ => exact Fin.ext (by show o + 1 * r.val = o + r.val; omega)
  | ⟨1, _⟩ => exact Fin.ext (by show 0 + 1 * c.val = c.val; omega)

/-- The codebook times -2. -/
def scaled (x : Vec Ideal S8192x256 .f32) : Vec Ideal S8192x256 .f32 :=
  fun i => x i * Ideal.ofBits .f32 3221225472#32

/-- The square sum of each codebook row, in every lane. -/
def norms (x : Vec Ideal S8192x256 .f32) : Vec Ideal S8192x256 .f32 :=
  fun i => ∑ c : Fin 256, x (ix2 (i 0) c) * x (ix2 (i 0) c)

/-- The value the first buffer's stores write: the loaded rows times -2. -/
theorem scaled_value (v : Vec Ideal S1024x256 .f32) (j : S1024x256.Idx) :
    k0_pay2 (F := Ideal) v j = v j * Ideal.ofBits .f32 3221225472#32 := by
  unfold k0_pay2
  exact shapeCast_apply _ _ _ j rfl

/-- A store of the scaled codebook's rows. -/
theorem scaled_piece {a : Memref sig .tc .vmem S8192x256 .f32} (ha : a.IsWhole) (x1 : Vec Ideal S8192x256 .f32) (o : ℕ)
    (inb : ∀ i, ![o, 0] i + S1024x256.size i ≤ S8192x256.size i)
    (x : (Rect.unit (s := S8192x256) ![o, 0] S1024x256.size inb).shape.Idx) :
    k0_pay2 (F := Ideal) (View.readAt (Elt Ideal) a.view (Rect.unit (s := S8192x256) ![o, 0] S1024x256.size inb).toLoadRect
      (ha.unread x1)) x = scaled x1 ((Rect.unit (s := S8192x256) ![o, 0] S1024x256.size inb).emb x) :=
  (scaled_value _ x).trans (congrArg (· * Ideal.ofBits .f32 3221225472#32)
    (ha.readAt_unread x1 (Rect.unit (s := S8192x256) ![o, 0] S1024x256.size inb).toLoadRect x))

/-- A sum over the columns of 1024 rows. -/
theorem sum_cols_apply (x : FVec Ideal S1024x256 .f32) (h : S1024x256.Reduces [1] S1024) (hφ : FKind.Formats .f32)
    (hacc : 0x00000000#32 = FKind.add.neutral .f32 hφ) (r : Fin 1024) :
    multiReduction .add [1] S1024 x 0x00000000#32 h hφ hacc (ix1 r) = ∑ c : Fin 256, x (ix2 r c) := by
  refine (Ideal.multiReduction_add_single x _ h hφ hacc (ix1 r)).trans ?_
  refine Finset.sum_congr rfl fun c _ => congrArg x ?_
  funext a
  match a with
  | ⟨0, _⟩ => rfl
  | ⟨1, _⟩ => rfl

/-- The value the second buffer's stores write: each loaded row's square sum, in every lane. -/
theorem norms_value (v : Vec Ideal S1024x256 .f32) (r : Fin 1024) (w : Fin 256) :
    k0_pay3 (F := Ideal) v (ix2 r w) = ∑ c : Fin 256, v (ix2 r c) * v (ix2 r c) := by
  unfold k0_pay3
  refine (shapeCast_apply _ _ _ (ix2 r w) rfl).trans ?_
  have hb : ∀ (u : FVec Ideal S1024x1 .f32) (h : S1024x1.Broadcasts S1024x256),
      broadcastTo S1024x256 u h (ix2 r w) = u (ix2 r 0) := fun u h => by
    refine congrArg u ?_
    funext a
    match a with
    | ⟨0, _⟩ => rfl
    | ⟨1, _⟩ => rfl
  refine (hb _ _).trans ?_
  refine (shapeCast_apply _ _ _ (ix2 r 0) rfl).trans ?_
  refine (shapeCast_apply _ _ _ (ix1 r) ?_).trans ?_
  · rw [Shape.rowMajor_val_one, Shape.rowMajor_val_two]
    show r.val = r.val * 1 + 0
    omega
  exact sum_cols_apply _ _ _ _ r

/-- A store of the rows' square sums. -/
theorem norms_piece {a : Memref sig .tc .vmem S8192x256 .f32} (ha : a.IsWhole) (x1 : Vec Ideal S8192x256 .f32) (o : ℕ)
    (inb : ∀ i, ![o, 0] i + S1024x256.size i ≤ S8192x256.size i)
    (x : (Rect.unit (s := S8192x256) ![o, 0] S1024x256.size inb).shape.Idx) :
    k0_pay3 (F := Ideal) (View.readAt (Elt Ideal) a.view (Rect.unit (s := S8192x256) ![o, 0] S1024x256.size inb).toLoadRect
      (ha.unread x1)) x = norms x1 ((Rect.unit (s := S8192x256) ![o, 0] S1024x256.size inb).emb x) := by
  have hx : x = ix2 (n0 := 1024) (n1 := 256) (x 0) (x 1) := eq_ix2 (n0 := 1024) (n1 := 256) x
  refine (congrArg _ hx).trans ((norms_value _ (x 0) (x 1)).trans ?_)
  refine Finset.sum_congr rfl fun c _ => ?_
  have hr := ha.readAt_unread x1 (Rect.unit (s := S8192x256) ![o, 0] S1024x256.size inb).toLoadRect
    (ix2 (n0 := 1024) (n1 := 256) (x 0) c)
  have hi : (Rect.unit (s := S8192x256) ![o, 0] S1024x256.size inb).toLoadRect.idx (ix2 (n0 := 1024) (n1 := 256) (x 0) c)
      = ix2 (n0 := 8192) (n1 := 256) ((Rect.unit (s := S8192x256) ![o, 0] S1024x256.size inb).emb x 0) c := by
    funext a
    match a with
    | ⟨0, _⟩ => rfl
    | ⟨1, _⟩ => exact Fin.ext (by show 0 + 1 * c.val = c.val; omega)
  rw [hi] at hr
  exact congrArg₂ (· * ·) hr hr

variable (c : Dev nD) (arg2 : Memref sig .tc .vmem S8192x256 .f32) (harg2 : arg2.IsWhole) (x1 : Vec Ideal S8192x256 .f32)

/-- The eight stores of the first buffer leave the scaled codebook. -/
theorem canon_scaled : View.canon (kernelRun0_A.sl.HS0_8 c arg2 harg2 x1) = scaled x1 := by
  funext y
  refine View.canon_apply_of_pieces (scaled x1) _ ?_ y
    (View.cover_of_tiledL (kernelRun0_A.sl.HS0_8 c arg2 harg2 x1) S1024x256.size (by sl_kernel_rfl) y)
  intro p hp x
  unfold kernelRun0_A.sl.HS0_8 at hp
  simp only [List.mem_cons, List.not_mem_nil, or_false] at hp
  rcases hp with rfl | rfl | rfl | rfl | rfl | rfl | rfl | rfl <;> exact scaled_piece harg2 x1 _ _ x

/-- The eight stores of the second leave the square sums. -/
theorem canon_norms : View.canon (kernelRun0_A.sl.HS1_8 c arg2 harg2 x1) = norms x1 := by
  funext y
  refine View.canon_apply_of_pieces (norms x1) _ ?_ y
    (View.cover_of_tiledL (kernelRun0_A.sl.HS1_8 c arg2 harg2 x1) S1024x256.size (by sl_kernel_rfl) y)
  intro p hp x
  unfold kernelRun0_A.sl.HS1_8 at hp
  simp only [List.mem_cons, List.not_mem_nil, or_false] at hp
  rcases hp with rfl | rfl | rfl | rfl | rfl | rfl | rfl | rfl <;> exact norms_piece harg2 x1 _ _ x

/-- A load of rows `o, …` of a buffer after stores that leave `X` reads rows of `X`. -/
theorem rows_stored {K : ℕ} (a : Memref sig .tc .vmem S8192x256 .f32) {P : List (View.Piece (Elt Ideal) S8192x256 .f32)}
    {X : Vec Ideal S8192x256 .f32} (hP : View.canon P = X) (o : ℕ)
    (inb : ∀ i, ![o, 0] i + (⟨2, ![K, 256]⟩ : Shape).size i ≤ S8192x256.size i) (r : Fin K) (c : Fin 256) :
    a.view.readCov P (Rect.unit (s := S8192x256) ![o, 0] (⟨2, ![K, 256]⟩ : Shape).size inb).toLoadRect (ix2 r c)
      = rowAt X (o + r.val) c := by
  have hlt : o + r.val < 8192 := by
    have h0 : o + K ≤ 8192 := inb 0
    have := r.isLt
    omega
  rw [rowAt_of_lt _ hlt, View.readCov_eq_canon', hP]
  refine congrArg X ?_
  funext a
  match a with
  | ⟨0, _⟩ => exact Fin.ext (by show o + 1 * r.val = o + r.val; omega)
  | ⟨1, _⟩ => exact Fin.ext (by show 0 + 1 * c.val = c.val; omega)

end Cert.Nearest

end
-- ==== Proof.Latent.lean ====
/-
  The latent block of one grid point as the kernel reads it: a 256 by 256 array, one point a column, and each column's square sum.
-/
module

public import proofs.«01_k».proof.Proof.Fill

@[expose] public section

noncomputable section

open Idealize.ShloMosaic Idealize.ShloMosaic.ValueIdx Cert.KernelIdeal Cert.KernelIdeal.Gen

namespace Cert.Nearest

/-- The latent block without its unit axis. -/
def lat (x : Vec Ideal S1x256x256 .f32) : FVec Ideal S256x256 .f32 :=
  fun i => x (ix3 (n0 := 1) (n1 := 256) (n2 := 256) 0 (i 0) (i 1))

/-- The square sum of column `w` of the latent block. -/
def sq (x : Vec Ideal S1x256x256 .f32) (w : Fin 256) : EReal :=
  ∑ c : Fin 256, lat x (ix2 c w) * lat x (ix2 c w)

variable {a : Memref sig .tc .vmem S1x256x256 .f32} (ha : a.IsWhole) (x : Vec Ideal S1x256x256 .f32)
  (inb : ∀ i, ![0, 0, 0] i + S1x256x256.size i ≤ S1x256x256.size i)

/-- The kernel's latent array. -/
theorem latent_load : k0_pay18 (F := Ideal) (View.readAt (Elt Ideal) a.view
    (Rect.unit (s := S1x256x256) ![0, 0, 0] S1x256x256.size inb).toLoadRect (ha.unread x)) = lat x := by
  funext j
  have hj : j = ix2 (n0 := 256) (n1 := 256) (j 0) (j 1) := eq_ix2 (n0 := 256) (n1 := 256) j
  unfold k0_pay18
  refine (shapeCast_apply _ _ j (ix3 (n0 := 1) (n1 := 256) (n2 := 256) 0 (j 0) (j 1)) ?_).trans ?_
  · rw [hj, Shape.rowMajor_val_three, Shape.rowMajor_val_two]
    show (0 * 256 + (j 0).val) * 256 + (j 1).val = (j 0).val * 256 + (j 1).val
    omega
  · refine (ha.readAt_unread x (Rect.unit (s := S1x256x256) ![0, 0, 0] S1x256x256.size inb).toLoadRect
      (ix3 (n0 := 1) (n1 := 256) (n2 := 256) 0 (j 0) (j 1))).trans (congrArg x ?_)
    funext b
    match b with
    | ⟨0, _⟩ => rfl
    | ⟨1, _⟩ => exact Fin.ext (by show 0 + 1 * (j 0).val = (j 0).val; omega)
    | ⟨2, _⟩ => exact Fin.ext (by show 0 + 1 * (j 1).val = (j 1).val; omega)

/-- A sum over the rows, column by column. -/
theorem sum_rows_apply (v : FVec Ideal S256x256 .f32) (h : S256x256.Reduces [0] S256) (hφ : FKind.Formats .f32)
    (hacc : 0x00000000#32 = FKind.add.neutral .f32 hφ) (w : Fin 256) :
    multiReduction .add [0] S256 v 0x00000000#32 h hφ hacc (ix1 w) = ∑ c : Fin 256, v (ix2 c w) := by
  refine (Ideal.multiReduction_add_single v _ h hφ hacc (ix1 w)).trans ?_
  refine Finset.sum_congr rfl fun c _ => congrArg v ?_
  funext b
  match b with
  | ⟨0, _⟩ => rfl
  | ⟨1, _⟩ => rfl

/-- The kernel's row of square sums. -/
theorem square_load (w : Fin 256) : k0_pay19 (F := Ideal) (View.readAt (Elt Ideal) a.view
    (Rect.unit (s := S1x256x256) ![0, 0, 0] S1x256x256.size inb).toLoadRect (ha.unread x)) (ix2 0 w) = sq x w := by
  unfold k0_pay19
  refine (shapeCast_apply _ _ _ (ix1 w) ?_).trans ?_
  · rw [Shape.rowMajor_val_one, Shape.rowMajor_val_two]
    show w.val = 0 * 256 + w.val
    omega
  · refine (sum_rows_apply _ _ _ _ w).trans ?_
    rw [latent_load ha x inb]
    rfl

/-- A block written by one whole store reads back as the stored value. -/
theorem stored_block (v : View sig .tc .vmem S1x1x256 .i32) (b : Vec Ideal S1x1x256 .i32)
    (inb : ∀ i, ![0, 0, 0] i + S1x1x256.size i ≤ S1x1x256.size i) (w : Fin 256) :
    v.read (Elt Ideal) (v.writes (Elt Ideal) v.junk
      [⟨Rect.unit (s := S1x1x256) ![0, 0, 0] S1x1x256.size inb, b⟩]) (ix3 0 0 w) = b (ix3 0 0 w) := by
  have he : (Rect.unit (s := S1x1x256) ![0, 0, 0] S1x1x256.size inb).emb (ix3 (n0 := 1) (n1 := 1) (n2 := 256) 0 0 w)
      = ix3 0 0 w := by
    funext d
    match d with
    | ⟨0, _⟩ => rfl
    | ⟨1, _⟩ => rfl
    | ⟨2, _⟩ => exact Fin.ext (by show 0 + 1 * w.val = w.val; omega)
  refine (View.read_writes_junk_apply_eq_canon v _ _).trans ?_
  have h := View.canon_cons_emb (Val := Elt Ideal) (e := .i32) (Rect.unit (s := S1x1x256) ![0, 0, 0] S1x1x256.size inb) b []
    (ix3 (n0 := 1) (n1 := 1) (n2 := 256) 0 0 w)
  rw [he] at h
  exact h

end Cert.Nearest

end
-- ==== Proof.BlockA.lean ====
/-
  The grid point that fills the scratch buffers: each column of its block gets the first row of least distance.
-/
module

public import proofs.«01_k».proof.Proof.Place
public import proofs.«01_k».proof.Proof.Latent

@[expose] public section

noncomputable section

open Idealize.ShloMosaic Idealize.ShloMosaic.ValueIdx Cert.KernelIdeal Cert.KernelIdeal.Gen

namespace Cert.Nearest

variable (c : Dev nD) (i : grid0.Coords) (arg1 : Memref sig .tc .vmem S1x256x256 .f32) (harg1 : arg1.IsWhole)
  (arg2 : Memref sig .tc .vmem S8192x256 .f32) (harg2 : arg2.IsWhole) (arg3 : Memref sig .tc .vmem S1x1x256 .i32)
  (harg3 : arg3.IsWhole) (arg4 : Memref sig .tc .vmem S8192x256 .f32) (harg4 : arg4.IsWhole)
  (arg5 : Memref sig .tc .vmem S8192x256 .f32) (harg5 : arg5.IsWhole) (x0 : Vec Ideal S1x256x256 .f32)
  (x1 : Vec Ideal S8192x256 .f32)

section
-- The vector operations stay folded, so that each step is compared with the kernel's term by name only.
attribute [local irreducible] select cmpf addf broadcast broadcastTo extractStridedSlice mulf multiReduction sitofp iota
  shapeCast constant dist Swept

set_option maxHeartbeats 4000000 in
set_option maxRecDepth 100000 in
/-- The stored value of the first grid point: 256 steps of 32 rows, then the first row among the 32 places. -/
theorem value_A (hδ : ∀ w r, dist (scaled x1) (norms x1) (kernelRun0_A.sl.r_2 c arg1 harg1 x0) (sq x0) w r < ⊤)
    (w : Fin 256) :
    ∃ r, FirstMin (dist (scaled x1) (norms x1) (kernelRun0_A.sl.r_2 c arg1 harg1 x0) (sq x0) w) 8192 r ∧
      k0_pay1 (kernelRun0_A.sl.r_216 c arg1 harg1 arg2 harg2 arg4 arg5 x0 x1)
        (kernelRun0_A.sl.r_218 c arg1 harg1 arg2 harg2 arg4 arg5 x0 x1) (ix3 0 0 w) = BitVec.ofNat 32 r := by
  have hz : ∀ w, kernelRun0_A.sl.r_3 c arg1 harg1 x0 (ix2 0 w) = sq x0 w := square_load harg1 x0 _
  have h4 := canon_scaled c arg2 harg2 x1
  have h5 := canon_norms c arg2 harg2 x1
  refine Swept.place (h2 := .inl rfl) (h3 := rfl) ?_ w
  iterate 256 refine Swept.step ?_ hδ hz (rows_stored arg4 h4 _ _) (rows_stored arg5 h5 _ _) rfl rfl (by decide) (by decide) (by decide)
  exact Swept.zero _

end

/-- What the first grid point leaves in its output block. -/
theorem out_A (hc : cond0_0 i) (hδ : ∀ w r, dist (scaled x1) (norms x1) (lat x0) (sq x0) w r < ⊤) (w : Fin 256) :
    ∃ r, FirstMin (dist (scaled x1) (norms x1) (lat x0) (sq x0) w) 8192 r ∧
      out0_A_2 c i arg1 harg1 arg2 harg2 arg3 harg3 arg4 harg4 arg5 harg5 hc x0 x1 (ix3 0 0 w) = BitVec.ofNat 32 r := by
  have hl : kernelRun0_A.sl.r_2 c arg1 harg1 x0 = lat x0 := latent_load harg1 x0 _
  obtain ⟨r, hr, hv⟩ := value_A c arg1 harg1 arg2 harg2 arg4 arg5 x0 x1 (by rw [hl]; exact hδ) w
  refine ⟨r, hl ▸ hr, ?_⟩
  exact (stored_block _ _ _ w).trans hv

/-- What it leaves in the first scratch buffer. -/
theorem scratch_scaled (hc : cond0_0 i) :
    sout0_A_0 c i arg1 harg1 arg2 harg2 arg3 harg3 arg4 harg4 arg5 harg5 hc x0 x1 = scaled x1 :=
  (View.read_writes_junk_eq_canon _ _).trans (canon_scaled c arg2 harg2 x1)

/-- What it leaves in the second. -/
theorem scratch_norms (hc : cond0_0 i) :
    sout0_A_1 c i arg1 harg1 arg2 harg2 arg3 harg3 arg4 harg4 arg5 harg5 hc x0 x1 = norms x1 :=
  (View.read_writes_junk_eq_canon _ _).trans (canon_norms c arg2 harg2 x1)

end Cert.Nearest

end
-- ==== Proof.BlockB.lean ====
/-
  A grid point that finds the scratch buffers filled: each column of its block gets the first row of least distance.
-/
module

public import proofs.«01_k».proof.Proof.Place
public import proofs.«01_k».proof.Proof.Latent

@[expose] public section

noncomputable section

open Idealize.ShloMosaic Idealize.ShloMosaic.ValueIdx Cert.KernelIdeal Cert.KernelIdeal.Gen

namespace Cert.Nearest

variable (c : Dev nD) (i : grid0.Coords) (arg1 : Memref sig .tc .vmem S1x256x256 .f32) (harg1 : arg1.IsWhole)
  (arg2 : Memref sig .tc .vmem S8192x256 .f32) (harg2 : arg2.IsWhole) (arg3 : Memref sig .tc .vmem S1x1x256 .i32)
  (harg3 : arg3.IsWhole) (arg4 : Memref sig .tc .vmem S8192x256 .f32) (harg4 : arg4.IsWhole)
  (arg5 : Memref sig .tc .vmem S8192x256 .f32) (harg5 : arg5.IsWhole) (x0 : Vec Ideal S1x256x256 .f32)
  (x1 : Vec Ideal S8192x256 .f32) (xs0 xs1 : Vec Ideal S8192x256 .f32)

section
-- The vector operations stay folded, so that each step is compared with the kernel's term by name only.
attribute [local irreducible] select cmpf addf broadcast broadcastTo extractStridedSlice mulf multiReduction sitofp iota
  shapeCast constant dist Swept

set_option maxHeartbeats 4000000 in
set_option maxRecDepth 100000 in
/-- The stored value of such a grid point: 256 steps of 32 rows, then the first row among the 32 places. -/
theorem value_B (hδ : ∀ w r, dist xs0 xs1 (kernelRun0_B.sl.r c arg1 harg1 x0) (sq x0) w r < ⊤) (w : Fin 256) :
    ∃ r, FirstMin (dist xs0 xs1 (kernelRun0_B.sl.r c arg1 harg1 x0) (sq x0) w) 8192 r ∧
      k0_pay1 (kernelRun0_B.sl.r_224 c arg1 harg1 arg4 harg4 arg5 harg5 x0 xs0 xs1)
        (kernelRun0_B.sl.r_226 c arg1 harg1 arg4 harg4 arg5 harg5 x0 xs0 xs1) (ix3 0 0 w) = BitVec.ofNat 32 r := by
  have hz : ∀ w, kernelRun0_B.sl.r_1 c arg1 harg1 x0 (ix2 0 w) = sq x0 w := square_load harg1 x0 _
  refine Swept.place (h2 := .inl rfl) (h3 := rfl) ?_ w
  iterate 256 refine Swept.step ?_ hδ hz (rows_load harg4 _ _ _) (rows_load harg5 _ _ _) rfl rfl (by decide) (by decide) (by decide)
  exact Swept.zero _

end

/-- What such a grid point leaves in its output block. -/
theorem out_B (hc : ¬cond0_0 i) (hδ : ∀ w r, dist xs0 xs1 (lat x0) (sq x0) w r < ⊤) (w : Fin 256) :
    ∃ r, FirstMin (dist xs0 xs1 (lat x0) (sq x0) w) 8192 r ∧
      out0_B_2 c i arg1 harg1 arg2 harg2 arg3 harg3 arg4 harg4 arg5 harg5 hc x0 x1 xs0 xs1 (ix3 0 0 w)
        = BitVec.ofNat 32 r := by
  have hl : kernelRun0_B.sl.r c arg1 harg1 x0 = lat x0 := latent_load harg1 x0 _
  obtain ⟨r, hr, hv⟩ := value_B c arg1 harg1 arg4 harg4 arg5 harg5 x0 xs0 xs1 (by rw [hl]; exact hδ) w
  refine ⟨r, hl ▸ hr, ?_⟩
  exact (stored_block _ _ _ w).trans hv

end Cert.Nearest

end
-- ==== Proof.Blocks.lean ====
/-
  The input blocks of a grid point: the whole codebook, and the point's own image of the latent.
-/
module

public import proofs.«01_k».proof.Proof.Gen.KernelIdeal.Frame
public import proofs.«01_k».proof.Proof.Sweep

@[expose] public section

noncomputable section

open Idealize.ShloMosaic Idealize.ShloMosaic.TcCoe Idealize.ShloMosaic.ValueIdx Cert.KernelIdeal Cert.KernelIdeal.Gen

namespace Cert.Nearest

variable (m : (ℓ : Loc nD τ sig) → Buf (Elt Ideal) ℓ) (c : Dev nD)

/-- The codebook window stays at the origin. -/
theorem index_codebook (t : Fin cfg0.N) : win0_1.index t (0 : Fin 2) = 0 ∧ win0_1.index t (1 : Fin 2) = 0 := by
  revert t
  decide

/-- The latent window moves one image a point. -/
theorem index_latent (t : Fin cfg0.N) :
    win0_0.index t (0 : Fin 3) = t.val ∧ win0_0.index t (1 : Fin 3) = 0 ∧ win0_0.index t (2 : Fin 3) = 0 := by
  revert t
  decide

/-- The codebook block a point reads is the whole codebook. -/
theorem codebook_block (t : Fin cfg0.N) : iblk m c 1 t = m ((c : Thread nD τ).loc main_arg1) := by
  obtain ⟨h0, h1⟩ := index_codebook t
  rw [← V_main_arg1 m c]
  funext j
  unfold iblk
  rw [View.read_apply, cast_eq]
  refine congrArg (V m c main_arg1) ?_
  funext a
  match a with
  | ⟨0, _⟩ =>
    refine Fin.ext ?_
    show win0_1.index t (0 : Fin 2) * 8192 + 1 * (j 0).val = (j 0).val
    omega
  | ⟨1, _⟩ =>
    refine Fin.ext ?_
    show win0_1.index t (1 : Fin 2) * 256 + 1 * (j 1).val = (j 1).val
    omega

/-- The latent block a point reads is its own image. -/
theorem latent_block (t : Fin cfg0.N) (b : Fin 16) (hb : b.val = t.val) (k w : Fin 256) :
    iblk m c 0 t (ix3 (n0 := 1) (n1 := 256) (n2 := 256) 0 k w) = m ((c : Thread nD τ).loc main_arg0) (ix4 b k (0 : Fin 1) w) := by
  obtain ⟨h0, h1, h2⟩ := index_latent t
  have hv : V m c main_v0 = shapeCast S16x256x256 (m ((c : Thread nD τ).loc main_arg0) : Vec Ideal S16x256x1x256 .f32)
      shapeCasts_S16x256x1x256_S16x256x256 := rfl
  unfold iblk
  rw [View.read_apply, cast_eq]
  have he : (((cfg0.win 0).blk t).view.emb (ix3 (n0 := 1) (n1 := 256) (n2 := 256) 0 k w) : S16x256x256.Idx) = ix3 b k w := by
    funext a
    match a with
    | ⟨0, _⟩ =>
      refine Fin.ext ?_
      show win0_0.index t (0 : Fin 3) * 1 + 1 * 0 = b.val
      omega
    | ⟨1, _⟩ =>
      refine Fin.ext ?_
      show win0_0.index t (1 : Fin 3) * 256 + 1 * k.val = k.val
      omega
    | ⟨2, _⟩ =>
      refine Fin.ext ?_
      show win0_0.index t (2 : Fin 3) * 256 + 1 * w.val = w.val
      omega
  refine (congrArg (V m c main_v0) he).trans ?_
  rw [hv]
  have hr : (Shape.rowMajor S16x256x1x256 (ix4 b k (0 : Fin 1) w)).val = (Shape.rowMajor S16x256x256 (ix3 b k w)).val := by
    rw [Shape.rowMajor_val_three, Shape.rowMajor_val_four]
    show ((b.val * 256 + k.val) * 1 + 0) * 256 + w.val = (b.val * 256 + k.val) * 256 + w.val
    omega
  exact shapeCast_apply _ _ _ _ hr

end Cert.Nearest

end
-- ==== Proof.Points.lean ====
/-
  Every grid point: after the first, the scratch buffers hold the scaled codebook and its rows' square sums, so each point
  writes the same thing, the first row of least distance for each column of its own latent block.
-/
module

public import proofs.«01_k».proof.Proof.BlockA
public import proofs.«01_k».proof.Proof.BlockB
public import proofs.«01_k».proof.Proof.Blocks
public import proofs.«01_k».proof.Proof.Gen.KernelIdeal.Value

@[expose] public section

noncomputable section

open Idealize.ShloMosaic Idealize.ShloMosaic.TcCoe Idealize.ShloMosaic.ValueIdx Cert.KernelIdeal Cert.KernelIdeal.Gen
  Cert.KernelIdeal.Value

namespace Cert.Nearest

variable (m : (ℓ : Loc nD τ sig) → Buf (Elt Ideal) ℓ) (c : Dev nD)

section
-- The generated terms stay folded: each point's contents are compared by name.
attribute [local irreducible] out0_A_2 out0_B_2 sout0_A_0 sout0_A_1 dist lat sq iblk scaled norms

/-- What a point of the first kind leaves in the scratch buffers. -/
theorem scratch_first (t : Fin cfg0.N) (h0 : t.val % 16 = 0) :
    (outsAt0 m c t.val t.isLt).2 =
      (scaled (m ((c : Thread nD τ).loc main_arg1)), norms (m ((c : Thread nD τ).loc main_arg1))) := by
  have hb := codebook_block m c t
  have hA := scratch_scaled c (grid0.coords t) (ms0_0 t) (hs0_0 t) (ms0_1 t) (hs0_1 t) (ms0_2 t) (hs0_2 t) scM0_0
    (Memref.isWhole_whole _) scM0_1 (Memref.isWhole_whole _) (iblk m c 0 t) (iblk m c 1 t) ((hcond0_0 t).mpr h0)
  have hB := scratch_norms c (grid0.coords t) (ms0_0 t) (hs0_0 t) (ms0_1 t) (hs0_1 t) (ms0_2 t) (hs0_2 t) scM0_0
    (Memref.isWhole_whole _) scM0_1 (Memref.isWhole_whole _) (iblk m c 0 t) (iblk m c 1 t) ((hcond0_0 t).mpr h0)
  refine (congrArg Prod.snd (outsAt0_A m c t h0)).trans ?_
  refine Prod.ext (hA.trans ?_) (hB.trans ?_)
  · exact congrArg scaled hb
  · exact congrArg norms hb

/-- What the scratch buffers hold after every point. -/
theorem scratch_after (n : ℕ) (hn : n < cfg0.N) :
    (outsAt0 m c n hn).2 =
      (scaled (m ((c : Thread nD τ).loc main_arg1)), norms (m ((c : Thread nD τ).loc main_arg1))) := by
  induction n with
  | zero => exact scratch_first m c ⟨0, hn⟩ rfl
  | succ n ih =>
    have hN : n + 1 < 16 := lt_of_lt_of_eq hn (show cfg0.N = 16 from N_0)
    exact (congrArg Prod.snd (outsAt0_B m c ⟨n + 1, hn⟩ (by show ¬(n + 1) % 16 = 0; omega))).trans
      (ih (Nat.lt_of_succ_lt hn))

/-- What point `t` writes into its block: the first row of least distance. -/
theorem block_after (t : Fin cfg0.N)
    (hδ : ∀ w r, dist (scaled (m ((c : Thread nD τ).loc main_arg1))) (norms (m ((c : Thread nD τ).loc main_arg1)))
      (lat (iblk m c 0 t)) (sq (iblk m c 0 t)) w r < ⊤) (w : Fin 256) :
    ∃ r, FirstMin (dist (scaled (m ((c : Thread nD τ).loc main_arg1))) (norms (m ((c : Thread nD τ).loc main_arg1)))
        (lat (iblk m c 0 t)) (sq (iblk m c 0 t)) w) 8192 r ∧
      (outsAt0 m c t.val t.isLt).1 (ix3 0 0 w) = BitVec.ofNat 32 r := by
  by_cases h0 : t.val % 16 = 0
  · have hb := codebook_block m c t
    rw [← hb] at hδ
    obtain ⟨r, hr, hv⟩ := out_A c (grid0.coords t) (ms0_0 t) (hs0_0 t) (ms0_1 t) (hs0_1 t) (ms0_2 t) (hs0_2 t) scM0_0
      (Memref.isWhole_whole _) scM0_1 (Memref.isWhole_whole _) (iblk m c 0 t) (iblk m c 1 t) ((hcond0_0 t).mpr h0) hδ w
    rw [hb] at hr
    exact ⟨r, hr, (congrFun (congrArg Prod.fst (outsAt0_A m c t h0)) (ix3 0 0 w)).trans hv⟩
  · have hs := scratch_after m c (t.val - 1) (Nat.lt_of_le_of_lt (Nat.sub_le _ _) t.isLt)
    have hs0 := congrArg Prod.fst hs
    have hs1 := congrArg Prod.snd hs
    dsimp only at hs0 hs1
    rw [← hs0, ← hs1] at hδ
    obtain ⟨r, hr, hv⟩ := out_B c (grid0.coords t) (ms0_0 t) (hs0_0 t) (ms0_1 t) (hs0_1 t) (ms0_2 t) (hs0_2 t) scM0_0
      (Memref.isWhole_whole _) scM0_1 (Memref.isWhole_whole _) (iblk m c 0 t) (iblk m c 1 t) _ _
      (fun h => h0 ((hcond0_0 t).mp h)) hδ w
    rw [hs0, hs1] at hr
    exact ⟨r, hr, (congrFun (congrArg Prod.fst (outsAt0_B m c t h0)) (ix3 0 0 w)).trans hv⟩

end

end Cert.Nearest

end
-- ==== Proof.Distance.lean ====
/-
  The kernel's distance is the reference's when the inputs are finite.
-/
module

public import proofs.«01_k».proof.Pre_finite
public import proofs.«01_k».proof.Proof.Fill
public import proofs.«01_k».proof.Proof.Latent
public import proofs.«01_k».proof.Proof.Sweep

@[expose] public section

noncomputable section

open Idealize.ShloMosaic Idealize.ShloMosaic.ValueIdx

namespace Cert.Nearest

/-- The literal the kernel scales the codebook by. -/
theorem neg_two : Ideal.ofBits .f32 3221225472#32 = ((-2 : ℝ) : EReal) := by
  show Ideal.ieee 8 23 3221225472#32 = _
  simp [Ideal.ieee]
  rw [← EReal.coe_mul]
  norm_num

/-- The literal the reference multiplies the inner products by. -/
theorem two : Ideal.ofBits .f32 1073741824#32 = ((2 : ℝ) : EReal) := by
  show Ideal.ieee 8 23 1073741824#32 = _
  simp [Ideal.ieee]
  rw [← EReal.coe_mul]
  norm_num

/-- Finite sums of reals. -/
theorem sum_coe (a : Fin 256 → ℝ) : ∑ c, (a c : EReal) = ((∑ c, a c : ℝ) : EReal) :=
  (map_sum (⟨⟨Real.toEReal, EReal.coe_zero⟩, EReal.coe_add⟩ : ℝ →+ EReal) a Finset.univ).symm

/-- Over the reals the two arrangements of the expanded square agree, and their value is a real. -/
theorem arrangements (a q : Fin 256 → ℝ) :
    ∃ v : ℝ, ((∑ c, (a c : EReal) * a c) + ∑ c, (q c : EReal) * q c) + ∑ c, ((q c : EReal) * ((-2 : ℝ) : EReal)) * a c = v ∧
      ((∑ c, (a c : EReal) * a c) + ∑ c, (q c : EReal) * q c) - ((2 : ℝ) : EReal) * ∑ c, (a c : EReal) * q c = v := by
  refine ⟨((∑ c, a c * a c) + ∑ c, q c * q c) + ∑ c, (q c * (-2)) * a c, ?_, ?_⟩
  · simp only [← EReal.coe_mul, sum_coe, ← EReal.coe_add]
  · simp only [← EReal.coe_mul, sum_coe, ← EReal.coe_add, ← EReal.coe_sub]
    refine congrArg _ ?_
    rw [sub_eq_add_neg, Finset.mul_sum, ← Finset.sum_neg_distrib]
    refine congrArg _ (Finset.sum_congr rfl fun c _ => by ring)

/-- At a row of a finite codebook and a column of a finite latent block the kernel's distance is the expanded square. -/
theorem dist_eq (e : (⟨2, ![8192, 256]⟩ : Shape).Idx → EReal) (L : (⟨2, ![256, 256]⟩ : Shape).Idx → EReal) (z : Fin 256 → EReal)
    (w : Fin 256) (r : Fin 8192) (he : ∀ c : Fin 256, ∃ q : ℝ, e (ix2 r c) = q) (hL : ∀ c : Fin 256, ∃ a : ℝ, L (ix2 c w) = a)
    (hz : z w = ∑ c : Fin 256, L (ix2 c w) * L (ix2 c w)) :
    (∃ v : ℝ, dist (scaled e) (norms e) L z w r.val = v) ∧
    dist (scaled e) (norms e) L z w r.val
      = ((∑ c : Fin 256, L (ix2 c w) * L (ix2 c w)) + ∑ c : Fin 256, e (ix2 r c) * e (ix2 r c))
        - Ideal.ofBits .f32 1073741824#32 * ∑ c : Fin 256, L (ix2 c w) * e (ix2 r c) := by
  choose q hq using he
  choose a ha using hL
  have hk : dist (scaled e) (norms e) L z w r.val
      = ((∑ c : Fin 256, L (ix2 c w) * L (ix2 c w)) + ∑ c : Fin 256, e (ix2 r c) * e (ix2 r c))
        + ∑ c : Fin 256, (e (ix2 r c) * Ideal.ofBits .f32 3221225472#32) * L (ix2 c w) := by
    unfold dist
    rw [rowAt_of_lt _ r.isLt, hz]
    refine congrArg₂ (fun u v : EReal => u + v) rfl (Finset.sum_congr rfl fun c _ => ?_)
    rw [rowAt_of_lt _ r.isLt]
    rfl
  obtain ⟨v, h1, h2⟩ := arrangements a q
  rw [hk]
  simp only [hq, ha, neg_two, two]
  exact ⟨⟨v, h1⟩, h1.trans h2.symm⟩

/-- Beyond the codebook's rows the distance is the latent's square sum alone. -/
theorem dist_beyond (X Y : (⟨2, ![8192, 256]⟩ : Shape).Idx → EReal) (L : (⟨2, ![256, 256]⟩ : Shape).Idx → EReal)
    (z : Fin 256 → EReal) (w : Fin 256) (r : ℕ) (hr : ¬ r < 8192) : dist X Y L z w r = z w := by
  unfold dist rowAt
  simp only [dif_neg hr, zero_mul, Finset.sum_const_zero, add_zero]

/-- A column of finite entries has a finite square sum. -/
theorem square_real (L : (⟨2, ![256, 256]⟩ : Shape).Idx → EReal) (w : Fin 256) (hL : ∀ c : Fin 256, ∃ a : ℝ, L (ix2 c w) = a) :
    ∃ v : ℝ, ∑ c : Fin 256, L (ix2 c w) * L (ix2 c w) = v := by
  choose a ha using hL
  exact ⟨∑ c, a c * a c, by simp only [ha, ← EReal.coe_mul, sum_coe]⟩

/-- An ideal value whose absolute value is below the infinite literal is a real. -/
theorem real_of_abs_lt {x : EReal} (h : Ideal.cmp .olt (max x (-x)) (Ideal.ofBits .f32 0x7F800000#32) = 1#1) : ∃ a : ℝ, x = a := by
  have htop : Ideal.ofBits .f32 0x7F800000#32 = (⊤ : EReal) := by
    show Ideal.ieee 8 23 0x7F800000#32 = ⊤
    simp [Ideal.ieee]
  rw [htop] at h
  induction x with
  | bot => simp [Ideal.cmp] at h
  | top => simp [Ideal.cmp] at h
  | coe a => exact ⟨a, rfl⟩

/-- The shape relations of the precondition's broadcasts. -/
theorem finite_facts : Cert.Pre_finite.Facts where
  bcast_S_S16x256x1x256 := by decide
  bcast_S_S8192x256 := by decide

/-- Where the precondition holds both arrays are real. -/
theorem real_of_finite [Cert.Pre_finite.Facts] (x : FVec Ideal Cert.Pre_finite.S16x256x1x256 .f32)
    (e : FVec Ideal Cert.Pre_finite.S8192x256 .f32)
    (h : (Cert.Pre_finite.fn (F := Ideal) x e).1 = (fun _ => 1#1) ∧ (Cert.Pre_finite.fn (F := Ideal) x e).2 = (fun _ => 1#1)) :
    (∀ i, ∃ a : ℝ, x i = a) ∧ ∀ i, ∃ a : ℝ, e i = a := by
  refine ⟨fun i => ?_, fun i => ?_⟩
  · exact real_of_abs_lt (congrFun h.1 i)
  · exact real_of_abs_lt (congrFun h.2 i)

end Cert.Nearest

end
-- ==== Proof.Reference.lean ====
/-
  The reference program's run: a straight line of host operations, folded to the term its result buffer ends at.
-/
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.Adequacy

@[expose] public section

noncomputable section

open Idealize.ShloMosaic Idealize.ShloMosaic.TcCoe Idealize.ShloMosaic.StableHlo Idealize.SL.Sem
open Cert.ReferenceIdeal Cert.ReferenceIdeal.Gen

namespace Cert.Nearest.Ref

variable {F : FTy → Type} [FloatOps F]

/-- The latent as 4096 points of 256 coordinates. -/
def points (x : FVec F S16x256x1x256 .f32) : FVec F S4096x256 .f32 :=
  shapeCast S4096x256 (transpose S16x1x256x256 [0, 2, 3, 1] x transposes_S16x256x1x256_S16x1x256x256_0_2_3_1)
    shapeCasts_S16x1x256x256_S4096x256

/-- The square sums of the points plus those of the codebook rows. -/
def squares (p : FVec F S4096x256 .f32) (e : FVec F S8192x256 .f32) : FVec F S4096x8192 .f32 :=
  addf
    (broadcastInDim S4096x8192 ![0, 1] bcast_S4096x1_S4096x8192_0_1
      (broadcastInDim S4096x1 ![0] bcast_S4096_S4096x1_0
        (Host.reduceAdd (mulf p p) (constant S_ .f32 0x00000000#32) reducesTo_S4096x256_S4096_d1 h_S_)))
    (broadcastInDim S4096x8192 ![0, 1] bcast_S1x8192_S4096x8192_0_1
      (broadcastInDim S1x8192 ![1] bcast_S8192_S1x8192_1
        (Host.reduceAdd (mulf e e) (constant S_ .f32 0x00000000#32) reducesTo_S8192x256_S8192_d1 h_S_)))

/-- Twice the inner products. -/
def products (p : FVec F S4096x256 .f32) (e : FVec F S8192x256 .f32) : FVec F S4096x8192 .f32 :=
  mulf (broadcastInDim S4096x8192 ![] bcast_S_S4096x8192 (constant S_ .f32 0x40000000#32))
    (Host.dotGeneral dot_S4096x256_S256x8192_S4096x8192_1_0_0_1_n_n none p
      (transpose S256x8192 [1, 0] e transposes_S8192x256_S256x8192_1_0))

/-- The table of distances. -/
def table (x : FVec F S16x256x1x256 .f32) (e : FVec F S8192x256 .f32) : FVec F S4096x8192 .f32 :=
  subf (squares (points x) e) (products (points x) e)

/-- The row each point picks. -/
def picks (x : FVec F S16x256x1x256 .f32) (e : FVec F S8192x256 .f32) : IVec S4096 32 := fun j =>
  (Host.argReduce reducer_argmin_f32_i32 (table x e) (iotaInDim S4096x8192 32 1) (constant S_ .f32 0x7F800000#32)
    (constantI S_ 32 0#32) reducesTo_S4096x8192_S4096_d1 h_S_ j).2

/-- `picks` as a function. -/
theorem picks_eq (x : FVec F S16x256x1x256 .f32) (e : FVec F S8192x256 .f32) :
    picks x e = fun j => (Host.argReduce reducer_argmin_f32_i32 (table x e) (iotaInDim S4096x8192 32 1)
      (constant S_ .f32 0x7F800000#32) (constantI S_ 32 0#32) reducesTo_S4096x8192_S4096_d1 h_S_ j).2 := by
  delta picks
  with_reducible rfl

/-- The program's operations in order, those of the called function in place. -/
abbrev steps : List (HloOp τ sig (Elt F)) :=
  [ unary main_arg0 main_v0 (transpose S16x1x256x256 [0, 2, 3, 1] · transposes_S16x256x1x256_S16x1x256x256_0_2_3_1),
    reshape main_v0 main_v1 rfl shapeCasts_S16x1x256x256_S4096x256,
    binary main_v1 main_v1 main_v2 mulf,
    nullary main_cst (constant S_ .f32 0x00000000#32),
    binary main_v2 main_cst main_v3 (fun x v => Host.reduceAdd x v reducesTo_S4096x256_S4096_d1 h_S_),
    unary main_v3 main_v4 (broadcastInDim S4096x1 ![0] bcast_S4096_S4096x1_0),
    binary main_arg1 main_arg1 main_v5 mulf,
    nullary main_cst_0 (constant S_ .f32 0x00000000#32),
    binary main_v5 main_cst_0 main_v6 (fun x v => Host.reduceAdd x v reducesTo_S8192x256_S8192_d1 h_S_),
    unary main_v6 main_v7 (broadcastInDim S1x8192 ![1] bcast_S8192_S1x8192_1),
    unary main_v4 main_v8 (broadcastInDim S4096x8192 ![0, 1] bcast_S4096x1_S4096x8192_0_1),
    unary main_v7 main_v9 (broadcastInDim S4096x8192 ![0, 1] bcast_S1x8192_S4096x8192_0_1),
    binary main_v8 main_v9 main_v10 addf,
    unary main_arg1 main_v11 (transpose S256x8192 [1, 0] · transposes_S8192x256_S256x8192_1_0),
    binary main_v1 main_v11 main_v12 (fun l r => Host.dotGeneral dot_S4096x256_S256x8192_S4096x8192_1_0_0_1_n_n none l r),
    nullary main_cst_1 (constant S_ .f32 0x40000000#32),
    unary main_cst_1 main_v13 (broadcastInDim S4096x8192 ![] bcast_S_S4096x8192),
    binary main_v13 main_v12 main_v14 mulf,
    binary main_v10 main_v14 main_v15 subf,
    TRef.nullary main_call0.v0 (iotaInDim S4096x8192 32 1),
    TRef.nullary main_call0.cst (constant S_ .f32 0x7F800000#32),
    TRef.nullary main_call0.c (constantI S_ 32 0#32),
    TRef.quaternary (.of main_v15) main_call0.v0 main_call0.cst main_call0.c main_call0.v1_0
      (fun x y u v j => (Host.argReduce reducer_argmin_f32_i32 x y u v reducesTo_S4096x8192_S4096_d1 h_S_ j).1),
    TRef.quaternary (.of main_v15) main_call0.v0 main_call0.cst main_call0.c main_call0.v1_1
      (fun x y u v j => (Host.argReduce reducer_argmin_f32_i32 x y u v reducesTo_S4096x8192_S4096_d1 h_S_ j).2),
    reshape main_v16 main_v17 rfl shapeCasts_S4096_S16x1x256 ]

/-- The program is these operations in sequence. -/
theorem main_steps (c : Dev nD) : main (F := F) c = seq steps := by
  simp only [main, fn_argmin.body, seq, bind_assoc, pure_bind]
  rfl

/-- The result buffer ends at the picks, laid out as the result. -/
theorem result_term (V : Valuation τ sig (Elt F)) :
    after steps V (main_v17 : DevRef τ sig)
      = shapeCast S16x1x256 (picks (V (main_arg0 : DevRef τ sig)) (V (main_arg1 : DevRef τ sig))) shapeCasts_S4096_S16x1x256 := by
  after_results_simp
  simp only [TRef.ofBuf, TRef.toBuf, cast_eq]
  unfold picks table squares products points
  funext i
  refine congrArg (fun f : IVec S4096 32 => shapeCast S16x1x256 f shapeCasts_S4096_S16x1x256 i) ?_
  funext j
  refine congrArg Prod.snd ?_
  rfl

/-- No operation writes the latent. -/
theorem latent_kept (V : Valuation τ sig (Elt F)) : after steps V (main_arg0 : DevRef τ sig) = V (main_arg0 : DevRef τ sig) := by
  simp only [after_cons, after_nil]
  rfl

/-- No operation writes the codebook. -/
theorem codebook_kept (V : Valuation τ sig (Elt F)) :
    after steps V (main_arg1 : DevRef τ sig) = V (main_arg1 : DevRef τ sig) := by
  simp only [after_cons, after_nil]
  rfl

/-- The program has no scoped buffer. -/
theorem no_scoped_refs : (Finset.univ.filter fun b : Ref sig .tc => b.isScoped) = ∅ := by decide

/-- It has no scoped semaphore. -/
theorem no_scoped_sems : (Finset.univ.filter fun s : SemLoc sig => s.isScoped .tc) = ∅ := by decide

/-- Every operation touches this core's buffers only. -/
theorem steps_local : (steps : List (HloOp τ sig (Elt F))).Forall fun op => op.bufs ⊆ tcRefs τ sig :=
  ⟨unary_bufs_sub .., reshape_bufs_sub .., binary_bufs_sub .., nullary_bufs_sub .., binary_bufs_sub .., unary_bufs_sub ..,
    binary_bufs_sub .., nullary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., nullary_bufs_sub .., nullary_bufs_sub .., quaternary_bufs_sub ..,
    quaternary_bufs_sub .., reshape_bufs_sub ..⟩

/-- Every run ends, each buffer at the operations' fold over what it held at the start. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after steps (launchContents m c) (b : DevRef τ sig) :=
  run_seq no_scoped_refs no_scoped_sems defs main (fun _ => steps) main_steps (fun _ => steps_local) m ρ

/-- The run, with the result's contents named and both arguments as they were. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = shapeCast S16x1x256 (picks (m ((c.tc : Thread nD τ).loc main_arg0)) (m ((c.tc : Thread nD τ).loc main_arg1)))
              shapeCasts_S4096_S16x1x256
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v17).trans (result_term _), (h c main_arg0).trans (latent_kept _),
    (h c main_arg1).trans (codebook_kept _)⟩) (run_all m ρ)

end Cert.Nearest.Ref

end
-- ==== Proof.ArgMin.lean ====
/-
  The reference's choice: the fold of its pair reducer along a row of the table is the place of the row's first minimum.
-/
module

public import proofs.«01_k».proof.Proof.FirstMin
public import proofs.«01_k».proof.Proof.Reference
public import Idealize.ShloMosaic.PureOps.Ideal
public import Idealize.ShloMosaic.Lib.IdealHost
public import Idealize.ShloMosaic.Lib.ValueIdx
public import Mathlib.Data.List.Sort

@[expose] public section

noncomputable section

open Idealize.ShloMosaic Idealize.ShloMosaic.ValueIdx Cert.ReferenceIdeal Cert.ReferenceIdeal.Gen

namespace Cert.Nearest.Ref

/-- One step of the reducer from a state `(v, n)` to the entry `(u, N)`: a strictly smaller entry is taken, and an equal one
    is not, since its place is later. -/
theorem reducer_step (v u : EReal) (n N : ℕ) (hN : N < 2 ^ 31) (h : n < N ∨ u < v) :
    reducer_argmin_f32_i32 (F := Ideal) (v, BitVec.ofNat 32 n) (u, BitVec.ofNat 32 N)
      = if u < v then (u, BitVec.ofNat 32 N) else (v, BitVec.ofNat 32 n) := by
  unfold reducer_argmin_f32_i32
  simp only [Ideal.cmpf_def, Ideal.cmp, IntOp.ori, IntOp.andi, IntOp.cmpi, Scalar.select]
  rcases lt_trichotomy u v with hlt | heq | hgt
  · have h1 : ¬ v < u := not_lt.mpr hlt.le
    have h2 : ¬ v = u := hlt.ne'
    simp [h1, h2, hlt]
  · subst heq
    have hn : n < N := h.resolve_right (lt_irrefl _)
    have hs : (BitVec.ofNat 32 n).slt (BitVec.ofNat 32 N) = true := by
      rw [BitVec.slt_iff_toInt_lt, BitVec.toInt_eq_toNat_of_lt, BitVec.toInt_eq_toNat_of_lt] <;>
        rw [BitVec.toNat_ofNat] <;> (try rw [BitVec.toNat_ofNat]) <;> omega
    simp [hs]
  · have h1 : ¬ u < v := not_lt.mpr hgt.le
    have h2 : ¬ v = u := hgt.ne
    simp [h1, h2, hgt]

/-- The fold over the first `N` entries of a sequence below `⊤` holds their first minimum. -/
theorem fold_found (f : ℕ → EReal) (hf : ∀ k, f k < ⊤) (N : ℕ) (hN : N ≤ 2 ^ 31) :
    ∃ v n, ((List.range N).map fun k => (f k, BitVec.ofNat 32 k)).foldl (reducer_argmin_f32_i32 (F := Ideal))
        (⊤, BitVec.ofNat 32 0) = (v, BitVec.ofNat 32 n) ∧ Found f N v n := by
  induction N with
  | zero => exact ⟨⊤, 0, rfl, .inl ⟨rfl, rfl, rfl⟩⟩
  | succ N ih =>
    obtain ⟨v, n, he, hv⟩ := ih (by omega)
    have hor : n < N ∨ f N < v := by
      rcases hv with ⟨rfl, rfl, rfl⟩ | ⟨h, _⟩
      · exact .inr (hf 0)
      · exact .inl h.lt
    rw [List.range_succ, List.map_append, List.foldl_append, he]
    show ∃ v' n', reducer_argmin_f32_i32 (F := Ideal) (v, BitVec.ofNat 32 n) (f N, BitVec.ofNat 32 N) = _ ∧ _
    rw [reducer_step v (f N) n N (by omega) hor]
    by_cases hlt : f N < v
    · exact ⟨f N, N, if_pos hlt, hv.take hlt⟩
    · exact ⟨v, n, if_neg hlt, hv.keep (hf N) hlt⟩

/-- The table's positions of row `a`, in the order in which the reduction meets them. -/
theorem row_positions (a : Fin 4096) :
    ((List.finRange S4096x8192.numel).filter fun n => reducesTo_S4096x8192_S4096_d1.drop (S4096x8192.rowMajor.symm n) = ix1 a)
      = (List.finRange 8192).map fun k => S4096x8192.rowMajor (ix2 a k) := by
  have hval : ∀ (b : Fin 4096) (k : Fin 8192), (S4096x8192.rowMajor (ix2 b k)).val = b.val * 8192 + k.val := fun b k => by
    rw [Shape.rowMajor_val_two]
    rfl
  have hdrop : ∀ (b : Fin 4096) (k : Fin 8192), reducesTo_S4096x8192_S4096_d1.drop (ix2 b k : S4096x8192.Idx) = ix1 b :=
    fun b k => by
      funext d
      match d with
      | ⟨0, _⟩ => rfl
  refine List.Pairwise.eq_of_mem_iff (r := (· < ·)) ((List.pairwise_lt_finRange _).filter _) ?_ ?_
  · refine List.pairwise_map.mpr ((List.pairwise_lt_finRange _).imp fun {k k'} hk => ?_)
    show (S4096x8192.rowMajor (ix2 a k)).val < (S4096x8192.rowMajor (ix2 a k')).val
    rw [hval, hval]
    have : k.val < k'.val := hk
    omega
  · intro n
    simp only [List.mem_filter, List.mem_finRange, true_and, List.mem_map, decide_eq_true_eq]
    obtain ⟨i, rfl⟩ := S4096x8192.rowMajor.surjective n
    rw [Equiv.symm_apply_apply]
    have hi : i = ix2 (n0 := 4096) (n1 := 8192) (i 0) (i 1) := eq_ix2 (n0 := 4096) (n1 := 8192) i
    constructor
    · intro h
      rw [hi] at h
      have h0 : i 0 = a := congrFun ((hdrop (i 0) (i 1)).symm.trans h) (0 : Fin 1)
      exact ⟨i 1, by rw [← h0, ← hi]⟩
    · rintro ⟨k, hk⟩
      rw [← S4096x8192.rowMajor.injective hk]
      exact hdrop a k

/-- Row `a` of a table as a sequence, `0` past its end. -/
def rowSeq (d : FVec Ideal S4096x8192 .f32) (a : Fin 4096) (r : ℕ) : EReal :=
  if h : r < 8192 then d (ix2 a ⟨r, h⟩) else 0

theorem rowSeq_of_lt (d : FVec Ideal S4096x8192 .f32) (a : Fin 4096) {r : ℕ} (h : r < 8192) :
    rowSeq d a r = d (ix2 a ⟨r, h⟩) := dif_pos h

/-- The reduction of a table whose entries are below `⊤` picks each row's first minimum. -/
theorem argReduce_firstMin (d : FVec Ideal S4096x8192 .f32) (a : Fin 4096) (hd : ∀ k : Fin 8192, d (ix2 a k) < ⊤) :
    ∃ r, FirstMin (rowSeq d a) 8192 r ∧
      (Host.argReduce (reducer_argmin_f32_i32 (F := Ideal)) d (iotaInDim S4096x8192 32 1) (constant S_ .f32 0x7F800000#32)
        (constantI S_ 32 0#32) reducesTo_S4096x8192_S4096_d1 h_S_ (ix1 a)).2 = BitVec.ofNat 32 r := by
  have hlist : Host.argReduceFiber d (iotaInDim S4096x8192 32 1) reducesTo_S4096x8192_S4096_d1 (ix1 a)
      = (List.range 8192).map fun k => (rowSeq d a k, BitVec.ofNat 32 k) := by
    unfold Host.argReduceFiber
    rw [row_positions a, List.map_map, ← List.map_coe_finRange_eq_range, List.map_map]
    refine List.map_congr_left fun k _ => ?_
    simp only [Function.comp_apply, Equiv.symm_apply_apply, rowSeq, dif_pos k.isLt]
    rfl
  have hseq : ∀ k, rowSeq d a k < ⊤ := fun k => by
    unfold rowSeq
    split
    · exact hd _
    · exact EReal.zero_lt_top
  obtain ⟨v, n, he, hv⟩ := fold_found (rowSeq d a) hseq 8192 (by decide)
  have htop : (constant S_ .f32 0x7F800000#32 : FVec Ideal S_ .f32) (Shape.Idx.first h_S_) = (⊤ : EReal) := by
    show Ideal.ieee 8 23 0x7F800000#32 = ⊤
    simp [Ideal.ieee]
  refine ⟨n, (hv.firstMin (by decide)).1, ?_⟩
  rw [Ideal.argReduce_eq_reduce2, Host.reduce2_eq_foldl_fiber, hlist, htop]
  exact congrArg Prod.snd he

/-- Each point picks its row's first minimum. -/
theorem picks_firstMin (x : FVec Ideal S16x256x1x256 .f32) (e : FVec Ideal S8192x256 .f32) (a : Fin 4096)
    (hd : ∀ k : Fin 8192, table x e (ix2 a k) < (⊤ : EReal)) :
    ∃ r, FirstMin (rowSeq (table x e) a) 8192 r ∧ picks x e (ix1 a) = BitVec.ofNat 32 r := by
  obtain ⟨r, hr, he⟩ := argReduce_firstMin (table x e) a hd
  exact ⟨r, hr, (congrFun (picks_eq x e) (ix1 a)).trans he⟩

end Cert.Nearest.Ref

end
-- ==== Proof.Table.lean ====
/-
  The reference's table of distances, entry by entry at the ideal values.
-/
module

public import proofs.«01_k».proof.Proof.Reference
public import Idealize.ShloMosaic.PureOps.Ideal
public import Idealize.ShloMosaic.PureOps.Ideal.Laws
public import Idealize.ShloMosaic.Lib.IdealHost
public import Idealize.ShloMosaic.Lib.StackMember
public import Idealize.ShloMosaic.Lib.Pipeline.Value
public import Idealize.ShloMosaic.Lib.ValueIdx

@[expose] public section

noncomputable section

open Idealize.ShloMosaic Idealize.ShloMosaic.ValueIdx Cert.ReferenceIdeal Cert.ReferenceIdeal.Gen

namespace Cert.Nearest.Ref

/-- The place of lane `w` of image `b` among the 4096 points. -/
def place (b : Fin 16) (w : Fin 256) : Fin 4096 := ⟨b.val * 256 + w.val, by omega⟩

/-- A point is a column of the latent. -/
theorem points_apply (x : FVec Ideal S16x256x1x256 .f32) (b : Fin 16) (w c : Fin 256) :
    points x (ix2 (place b w) c) = x (ix4 b c (0 : Fin 1) w) := by
  unfold points
  rw [shapeCast_apply (s := S16x1x256x256) (t := S4096x256) _ _ (ix2 (place b w) c) (ix4 b (0 : Fin 1) w c)]
  · refine transpose_apply (s := S16x256x1x256) (t := S16x1x256x256) [0, 2, 3, 1] x _ _ _ fun a => ?_
    match a with
    | ⟨0, _⟩ => rfl
    | ⟨1, _⟩ => rfl
    | ⟨2, _⟩ => rfl
    | ⟨3, _⟩ => rfl
  · rw [Shape.rowMajor_val_two, Shape.rowMajor_val_four]
    show ((b.val * 1 + 0) * 256 + w.val) * 256 + c.val = (b.val * 256 + w.val) * 256 + c.val
    omega

/-- The sum of the squares along a row. -/
theorem square_sum (R : ℕ) (h : (⟨2, ![R, 256]⟩ : Shape).ReducesTo [1] ⟨1, ![R]⟩) (hr : (⟨2, ![R, 256]⟩ : Shape).Reduces [1] ⟨1, ![R]⟩)
    (p : FVec Ideal ⟨2, ![R, 256]⟩ .f32) (a : Fin R) :
    Host.reduceAdd (mulf p p) (constant S_ .f32 0x00000000#32) h h_S_ (ix1 a) = ∑ c : Fin 256, p (ix2 a c) * p (ix2 a c) := by
  rw [hostReduceAdd_apply, Ideal.hostReduceAdd_single h hr]
  have h0 : (constant S_ .f32 0x00000000#32 : FVec Ideal S_ .f32) (Shape.Idx.first h_S_) = (0 : EReal) := by
    show Ideal.ieee 8 23 0x00000000#32 = 0
    simp [Ideal.ieee]
  rw [h0, zero_add]
  refine Finset.sum_congr rfl fun c _ => ?_
  have hl : hr.lift (ix1 a) c = ix2 a c := by
    funext d
    match d with
    | ⟨0, _⟩ => rfl
    | ⟨1, _⟩ => rfl
  rw [hl]
  rfl

/-- The sum of the two square sums. -/
theorem squares_apply (p : FVec Ideal S4096x256 .f32) (e : FVec Ideal S8192x256 .f32) (a : Fin 4096) (r : Fin 8192) :
    squares p e (ix2 a r) = (∑ c : Fin 256, p (ix2 a c) * p (ix2 a c)) + ∑ c : Fin 256, e (ix2 r c) * e (ix2 r c) := by
  unfold squares
  refine congrArg₂ (fun u v : EReal => u + v) ?_ ?_
  · rw [broadcastInDim_apply (s := S4096x1) (t := S4096x8192) ![0, 1] _ _ (ix2 a r) (ix2 a (0 : Fin 1)),
      broadcastInDim_apply (s := S4096) (t := S4096x1) ![0] _ _ (ix2 a (0 : Fin 1)) (ix1 a)]
    · exact square_sum 4096 reducesTo_S4096x256_S4096_d1 (by decide) p a
    · intro d
      match d with
      | ⟨0, _⟩ => rfl
    · intro d
      match d with
      | ⟨0, _⟩ => rfl
      | ⟨1, _⟩ => rfl
  · rw [broadcastInDim_apply (s := S1x8192) (t := S4096x8192) ![0, 1] _ _ (ix2 a r) (ix2 (0 : Fin 1) r),
      broadcastInDim_apply (s := S8192) (t := S1x8192) ![1] _ _ (ix2 (0 : Fin 1) r) (ix1 r)]
    · exact square_sum 8192 reducesTo_S8192x256_S8192_d1 (by decide) e r
    · intro d
      match d with
      | ⟨0, _⟩ => rfl
    · intro d
      match d with
      | ⟨0, _⟩ => rfl
      | ⟨1, _⟩ => rfl

/-- Twice the inner product. -/
theorem products_apply (p : FVec Ideal S4096x256 .f32) (e : FVec Ideal S8192x256 .f32) (a : Fin 4096) (r : Fin 8192) :
    products p e (ix2 a r) = Ideal.ofBits .f32 1073741824#32 * ∑ c : Fin 256, p (ix2 a c) * e (ix2 r c) := by
  unfold products
  refine congrArg₂ (fun u v : EReal => u * v) ?_ ?_
  · exact broadcastInDim_scalar_apply bcast_S_S4096x8192 (constant S_ .f32 0x40000000#32) (ix2 a r)
  · refine (StackMember.dotGeneral_plain_apply none p (transpose S256x8192 [1, 0] e transposes_S8192x256_S256x8192_1_0) a r).trans ?_
    refine Finset.sum_congr rfl fun c _ => congrArg (fun u : EReal => p (ix2 a c) * u) ?_
    refine transpose_apply (s := S8192x256) (t := S256x8192) [1, 0] e _ _ _ fun d => ?_
    match d with
    | ⟨0, _⟩ => rfl
    | ⟨1, _⟩ => rfl

/-- An entry of the table: the expanded squared distance between a column of the latent and a codebook row. -/
theorem table_apply (x : FVec Ideal S16x256x1x256 .f32) (e : FVec Ideal S8192x256 .f32) (b : Fin 16) (w : Fin 256) (r : Fin 8192) :
    table x e (ix2 (place b w) r)
      = ((∑ c : Fin 256, x (ix4 b c (0 : Fin 1) w) * x (ix4 b c (0 : Fin 1) w)) + ∑ c : Fin 256, e (ix2 r c) * e (ix2 r c))
        - Ideal.ofBits .f32 1073741824#32 * ∑ c : Fin 256, x (ix4 b c (0 : Fin 1) w) * e (ix2 r c) := by
  refine congrArg₂ (fun u v : EReal => u - v) ?_ ?_
  · rw [squares_apply]
    simp only [points_apply]
  · rw [products_apply]
    simp only [points_apply]

end Cert.Nearest.Ref

end
-- ==== Proof.Agree.lean ====
/-
  On finite inputs the kernel's output array is the reference's result.
-/
module

public import proofs.«01_k».proof.Proof.Points
public import proofs.«01_k».proof.Proof.Distance
public import proofs.«01_k».proof.Proof.ArgMin
public import proofs.«01_k».proof.Proof.Table

@[expose] public section

noncomputable section

open Idealize.ShloMosaic Idealize.ShloMosaic.TcCoe Idealize.ShloMosaic.ValueIdx Cert.KernelIdeal Cert.KernelIdeal.Gen
  Cert.KernelIdeal.Value

namespace Cert.Nearest

/-- A first minimum depends on the entries below the bound alone. -/
theorem FirstMin.congr {f g : ℕ → EReal} {N n : ℕ} (h : FirstMin f N n) (hfg : ∀ r < N, f r = g r) : FirstMin g N n :=
  ⟨h.lt, fun i hi => by rw [← hfg n h.lt, ← hfg i hi]; exact h.le i hi,
    fun i hi => by rw [← hfg n h.lt, ← hfg i (hi.trans h.lt)]; exact h.first i hi⟩

/-- The output array at image `b`, lane `w` is what grid point `b` wrote into lane `w` of its block. -/
theorem output_apply (m : (ℓ : Loc nD τ sig) → Buf (Elt Ideal) ℓ) (c : Dev nD) (t : Fin cfg0.N) (b : Fin 16) (hb : b.val = t.val)
    (w : Fin 256) : G2 m c (ix3 b (0 : Fin 1) w) = (outsAt0 m c t.val t.isLt).1 (ix3 0 0 w) := by
  have hp : pt2Of (ix3 b (0 : Fin 1) w) = t.val := by
    show 1 * (b.val / 1 - 0) + 1 * (0 / 1 - 0) + 1 * (w.val / 256 - 0) = t.val
    omega
  have hl : loc2Of (ix3 b (0 : Fin 1) w) = ix3 0 0 w := by
    funext d
    match d with
    | ⟨0, _⟩ => exact Fin.ext (Nat.mod_one _)
    | ⟨1, _⟩ => rfl
    | ⟨2, _⟩ => exact Fin.ext (Nat.mod_eq_of_lt w.isLt)
  unfold G2
  rw [dif_pos (by rw [hp]; exact t.isLt), hl, outsAt0_sweep, fold0_congr m c _ _ _ _ hp]

/-- The reference's result at image `b`, lane `w` is the pick of the point at that place. -/
theorem result_apply (p : IVec Cert.ReferenceIdeal.S4096 32) (b : Fin 16) (w : Fin 256) :
    shapeCast Cert.ReferenceIdeal.S16x1x256 p Cert.ReferenceIdeal.Gen.shapeCasts_S4096_S16x1x256 (ix3 b (0 : Fin 1) w)
      = p (ix1 (Ref.place b w)) := by
  refine shapeCast_apply (s := Cert.ReferenceIdeal.S4096) (t := Cert.ReferenceIdeal.S16x1x256) p _ _ (ix1 (Ref.place b w)) ?_
  rw [Shape.rowMajor_val_one, Shape.rowMajor_val_three]
  show b.val * 256 + w.val = (b.val * 1 + 0) * 256 + w.val
  omega

variable (m : (ℓ : Loc nD τ sig) → Buf (Elt Ideal) ℓ) (c : Dev nD)

/-- The kernel's latent argument. -/
abbrev latentIn : FVec Ideal Cert.ReferenceIdeal.S16x256x1x256 .f32 := m ((c : Thread nD τ).loc main_arg0)

/-- The kernel's codebook argument. -/
abbrev codebookIn : FVec Ideal Cert.ReferenceIdeal.S8192x256 .f32 := m ((c : Thread nD τ).loc main_arg1)

section
-- The generated terms stay folded: contents are compared by name.
attribute [local irreducible] outsAt0 dist iblk scaled norms Ref.table Ref.picks Ref.points

/-- A column of the latent block at point `t` is a column of the latent. -/
theorem column (t : Fin cfg0.N) (b : Fin 16) (hb : b.val = t.val) (k w : Fin 256) :
    lat (iblk m c 0 t) (ix2 k w) = latentIn m c (ix4 b k (0 : Fin 1) w) :=
  latent_block m c t b hb k w

/-- At point `t` the kernel's distances are a row of the reference's table, and all of them are finite. -/
theorem distances (hx : ∀ i, ∃ a : ℝ, latentIn m c i = (a : EReal))
    (he : ∀ i, ∃ a : ℝ, codebookIn m c i = (a : EReal)) (t : Fin cfg0.N) (b : Fin 16) (hb : b.val = t.val) (w : Fin 256) :
    (∀ r, dist (scaled (codebookIn m c)) (norms (codebookIn m c))
      (lat (iblk m c 0 t)) (sq (iblk m c 0 t)) w r < ⊤) ∧
    ∀ r : Fin 8192, dist (scaled (codebookIn m c)) (norms (codebookIn m c))
      (lat (iblk m c 0 t)) (sq (iblk m c 0 t)) w r.val
        = Ref.table (F := Ideal) (latentIn m c) (codebookIn m c) (ix2 (Ref.place b w) r) := by
  have hL : ∀ k : Fin 256, ∃ a : ℝ, lat (iblk m c 0 t) (ix2 k w) = a := fun k => by
    rw [column m c t b hb k w]
    exact hx _
  have hd := fun r : Fin 8192 => dist_eq (codebookIn m c) (lat (iblk m c 0 t)) (sq (iblk m c 0 t)) w r
    (fun k => he _) hL rfl
  refine ⟨fun r => ?_, fun r => (hd r).2.trans ?_⟩
  · by_cases hr : r < 8192
    · obtain ⟨v, hv⟩ := (hd ⟨r, hr⟩).1
      rw [hv]
      exact EReal.coe_lt_top v
    · rw [dist_beyond _ _ _ _ _ _ hr]
      obtain ⟨v, hv⟩ := square_real _ w hL
      exact lt_of_eq_of_lt hv (EReal.coe_lt_top v)
  · rw [Ref.table_apply]
    simp only [column m c t b hb]

/-- The kernel's output array is the reference's result. -/
theorem agree (hx : ∀ i, ∃ a : ℝ, latentIn m c i = (a : EReal))
    (he : ∀ i, ∃ a : ℝ, codebookIn m c i = (a : EReal)) :
    G2 m c = shapeCast Cert.ReferenceIdeal.S16x1x256
      (Ref.picks (F := Ideal) (latentIn m c) (codebookIn m c))
      Cert.ReferenceIdeal.Gen.shapeCasts_S4096_S16x1x256 := by
  funext i
  obtain ⟨b, w, rfl⟩ : ∃ (b : Fin 16) (w : Fin 256), i = ix3 b (0 : Fin 1) w :=
    ⟨i 0, i 2, by
      funext d
      match d with
      | ⟨0, _⟩ => rfl
      | ⟨1, _⟩ => exact Subsingleton.elim (α := Fin 1) _ _
      | ⟨2, _⟩ => rfl⟩
  have hbN : b.val < cfg0.N := lt_of_lt_of_eq b.isLt N_0.symm
  have hd := fun w => distances m c hx he ⟨b.val, hbN⟩ b rfl w
  obtain ⟨r, hr, hv⟩ := block_after m c ⟨b.val, hbN⟩ (fun w => (hd w).1) w
  obtain ⟨r', hr', hv'⟩ := Ref.picks_firstMin (latentIn m c) (codebookIn m c) (Ref.place b w)
    (fun k => lt_of_eq_of_lt ((hd w).2 k).symm ((hd w).1 k.val))
  have hrr : r = r' := (hr.congr fun k hk => by
    rw [(hd w).2 ⟨k, hk⟩]
    exact (Ref.rowSeq_of_lt _ _ hk).symm).unique hr'
  refine (output_apply m c ⟨b.val, hbN⟩ b rfl w).trans (hv.trans ?_)
  refine Eq.trans ?_ (result_apply _ b w).symm
  rw [hrr]
  exact hv'.symm

end

end Cert.Nearest

end
-- ==== Proof.lean ====
/-
  The claims: every program runs and leaves its arguments and semaphores as they were; the kernel's idealization is its own
  text; and on finite inputs the kernel's output is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Agree
public import proofs.«01_k».proof.Proof.Reference
public import Idealize.ShloMosaic.Lib.Quiescent
public import Idealize.ShloMosaic.Adequacy

@[expose] public section

noncomputable section

namespace Cert.Proof

open Idealize.ShloMosaic Idealize.SL.Sem

/-- The reference ends with its arguments unchanged; it has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.Nearest.Ref.run_value (F := Ideal) m ρ)

/-- From finite inputs the kernel and the reference end with the same array. -/
theorem same_result : @Cert.algebraic_KernelIdeal_ReferenceIdeal_pre_finite Cert.KernelIdeal.Gen.facts Cert.ReferenceIdeal.Gen.facts
    Cert.Nearest.finite_facts := by
  intro m ρ m' ρ' hpre hargs
  refine ⟨fun c => Cert.KernelIdeal.Value.G2 m c, Cert.KernelIdeal.Value.run (F := Ideal) m ρ, ?_⟩
  refine (θ_run Cert.ReferenceIdeal.defs _ _).mono (fun r h c => ⟨(h c).1.trans ?_, (h c).2⟩)
    (Cert.Nearest.Ref.run_value (F := Ideal) m' ρ')
  have hreal := @Cert.Nearest.real_of_finite Cert.Nearest.finite_facts _ _ (hpre c)
  rw [(hargs c).1, (hargs c).2]
  exact (Cert.Nearest.agree m c hreal.1 hreal.2).symm

/-- All the claims. -/
theorem claim : Cert.Claim :=
  ⟨Cert.Kernel.Gen.facts, Cert.KernelIdeal.Gen.facts, Cert.ReferenceIdeal.Gen.facts, Cert.Nearest.finite_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_result⟩

end Cert.Proof

end
